-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rotation [hPre_finite_rotation : Cert.Pre_finite_rotation.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_rotation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rotation [hPre_finite_rotation : Cert.Pre_finite_rotation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rotation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_rotation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_rotation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_rotation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_rotation [hKernelIdeal : Cert.KernelIdeal.Facts] [hPre_finite_rotation : Cert.Pre_finite_rotation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rotation m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_rotation [hReferenceIdeal : Cert.ReferenceIdeal.Facts] [hPre_finite_rotation : Cert.Pre_finite_rotation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rotation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_rotation [hKernelIdeal : Cert.KernelIdeal.Facts] [hReferenceIdeal : Cert.ReferenceIdeal.Facts] [hPre_finite_rotation : Cert.Pre_finite_rotation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rotation m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_rotation : Cert.Pre_finite_rotation.Facts),
    quiescent_Kernel (hKernel := hKernel)
    ∧ quiescent_KernelIdeal (hKernelIdeal := hKernelIdeal)
    ∧ quiescent_KernelIdeal_pre_finite_rotation (hKernelIdeal := hKernelIdeal) (hPre_finite_rotation := hPre_finite_rotation)
    ∧ quiescent_ReferenceIdeal (hReferenceIdeal := hReferenceIdeal)
    ∧ quiescent_ReferenceIdeal_pre_finite_rotation (hReferenceIdeal := hReferenceIdeal) (hPre_finite_rotation := hPre_finite_rotation)
    ∧ preserves_Kernel_KernelIdeal
    ∧ algebraic_KernelIdeal_ReferenceIdeal_pre_finite_rotation (hKernelIdeal := hKernelIdeal) (hReferenceIdeal := hReferenceIdeal) (hPre_finite_rotation := hPre_finite_rotation)
-- ==== Pre_finite_rotation.lean ====
abbrev S1x2048x2048 : Shape := ⟨3, ![1, 2048, 2048]⟩
abbrev S1x2048x128 : Shape := ⟨3, ![1, 2048, 128]⟩
abbrev S2048x2048 : Shape := ⟨2, ![2048, 2048]⟩
abbrev S2048x1024 : Shape := ⟨2, ![2048, 1024]⟩
abbrev S128 : Shape := ⟨1, ![128]⟩
abbrev S_ : Shape := ⟨0, ![]⟩

class Facts : Prop where
  bcast_S_S1x2048x128 : S_.BroadcastsInDim S1x2048x128 (![] : Fin 0 → Fin S1x2048x128.rank)
  bcast_S_S128 : S_.BroadcastsInDim S128 (![] : Fin 0 → Fin S128.rank)

variable [Facts]

def fn {F : FTy → Type} [FloatOps F] (main_arg0 : FVec F S1x2048x2048 .f32) (main_arg1 : FVec F S1x2048x128 .f32) (main_arg2 : FVec F S1x2048x128 .f32) (main_arg3 : FVec F S2048x2048 .f32) (main_arg4 : FVec F S2048x1024 .f32) (main_arg5 : FVec F S2048x1024 .f32) (main_arg6 : FVec F S2048x2048 .f32) (main_arg7 : FVec F S128 .f32) (main_arg8 : FVec F S128 .f32) : IVec S1x2048x128 1 × IVec S1x2048x128 1 × IVec S128 1 × IVec S128 1 :=
  let main_v0 : FVec F S1x2048x128 .f32 := Host.absf main_arg1
  let main_cst : FVec F S_ .f32 := constant S_ .f32 0x7F800000#32
  let main_v1 : FVec F S1x2048x128 .f32 := broadcastInDim S1x2048x128 ![] bcast_S_S1x2048x128 main_cst
  let main_v2 : IVec S1x2048x128 1 := cmpf .olt main_v0 main_v1
  let main_v3 : FVec F S1x2048x128 .f32 := Host.absf main_arg2
  let main_cst_0 : FVec F S_ .f32 := constant S_ .f32 0x7F800000#32
  let main_v4 : FVec F S1x2048x128 .f32 := broadcastInDim S1x2048x128 ![] bcast_S_S1x2048x128 main_cst_0
  let main_v5 : IVec S1x2048x128 1 := cmpf .olt main_v3 main_v4
  let main_v6 : FVec F S128 .f32 := Host.absf main_arg7
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128 .f32 := Host.absf main_arg8
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  (main_v2, main_v5, main_v8, main_v11)
-- ==== Kernel.lean ====
abbrev S1x2048x2048 : Shape := ⟨3, ![1, 2048, 2048]⟩
abbrev S1x2048x128 : Shape := ⟨3, ![1, 2048, 128]⟩
abbrev S2048x2048 : Shape := ⟨2, ![2048, 2048]⟩
abbrev S2048x1024 : Shape := ⟨2, ![2048, 1024]⟩
abbrev S128 : Shape := ⟨1, ![128]⟩
abbrev S2048x128 : Shape := ⟨2, ![2048, 128]⟩
abbrev S16x128 : Shape := ⟨2, ![16, 128]⟩
abbrev S8x128 : Shape := ⟨2, ![8, 128]⟩
abbrev S_ : Shape := ⟨0, ![]⟩
abbrev S32x128 : Shape := ⟨2, ![32, 128]⟩
abbrev S8x1x512 : Shape := ⟨3, ![8, 1, 512]⟩
abbrev S2048x4096 : Shape := ⟨2, ![2048, 4096]⟩
abbrev S2048x512 : Shape := ⟨2, ![2048, 512]⟩
abbrev S1x1x512 : Shape := ⟨3, ![1, 1, 512]⟩
abbrev S2048 : Shape := ⟨1, ![2048]⟩
abbrev S2048x1 : Shape := ⟨2, ![2048, 1]⟩
abbrev S1x1x128 : Shape := ⟨3, ![1, 1, 128]⟩
abbrev S1x128 : Shape := ⟨2, ![1, 128]⟩
abbrev S2048x64 : Shape := ⟨2, ![2048, 64]⟩
abbrev S512x128 : Shape := ⟨2, ![512, 128]⟩
abbrev S512x2048 : Shape := ⟨2, ![512, 2048]⟩
abbrev S1024x128 : Shape := ⟨2, ![1024, 128]⟩
abbrev S1024x1 : Shape := ⟨2, ![1024, 1]⟩
abbrev S1024x512 : Shape := ⟨2, ![1024, 512]⟩
abbrev S1024 : Shape := ⟨1, ![1024]⟩
abbrev S512x256 : Shape := ⟨2, ![512, 256]⟩
abbrev S256x2048 : Shape := ⟨2, ![256, 2048]⟩

abbrev nBuf : Space → Nat
  | .hbm => 25
  | .vmem => 20
  | .smem => 0
  | _ => 0

abbrev bufTy : (tb : Table) → Fin (tcTables nBuf tb) → BufTy
  | .hbm, ⟨0, _⟩ => ⟨S1x2048x2048, .f32⟩
  | .hbm, ⟨1, _⟩ => ⟨S1x2048x128, .f32⟩
  | .hbm, ⟨2, _⟩ => ⟨S1x2048x128, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x2048, .f32⟩
  | .hbm, ⟨7, _⟩ => ⟨S128, .f32⟩
  | .hbm, ⟨8, _⟩ => ⟨S128, .f32⟩
  | .hbm, ⟨9, _⟩ => ⟨S2048x2048, .f32⟩
  | .hbm, ⟨10, _⟩ => ⟨S2048x2048, .bf16⟩
  | .hbm, ⟨11, _⟩ => ⟨S2048x128, .f32⟩
  | .hbm, ⟨12, _⟩ => ⟨S2048x128, .f32⟩
  | .hbm, ⟨13, _⟩ => ⟨S16x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S32x128, .f32⟩
  | .hbm, ⟨18, _⟩ => ⟨S8x1x512, .f32⟩
  | .hbm, ⟨19, _⟩ => ⟨S2048x4096, .f32⟩
  | .hbm, ⟨20, _⟩ => ⟨S2048x4096, .bf16⟩
  | .hbm, ⟨21, _⟩ => ⟨S2048x4096, .bf16⟩
  | .hbm, ⟨22, _⟩ => ⟨S2048x2048, .bf16⟩
  | .hbm, ⟨23, _⟩ => ⟨S2048x2048, .f32⟩
  | .hbm, ⟨24, _⟩ => ⟨S1x2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S1x1x512, .f32⟩
  | .local _ .vmem, ⟨4, _⟩ => ⟨S1x1x512, .f32⟩
  | .local _ .vmem, ⟨5, _⟩ => ⟨S2048x128, .f32⟩
  | .local _ .vmem, ⟨6, _⟩ => ⟨S2048x128, .f32⟩
  | .local _ .vmem, ⟨7, _⟩ => ⟨S2048x512, .bf16⟩
  | .local _ .vmem, ⟨8, _⟩ => ⟨S2048x512, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x2048, .bf16⟩
  | .local _ .vmem, ⟨18, _⟩ => ⟨S512x2048, .f32⟩
  | .local _ .vmem, ⟨19, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c6_i32 : BitVec 32 := 6#32
  let v5 : BitVec 1 := Scalar.cmpi .slt arg0 c6_i32
  let v6 : BitVec 32 := Scalar.extui v5
  let c0_i32 : BitVec 32 := 0#32
  let v7 : BitVec 1 := Scalar.cmpi .ne v6 c0_i32
  v7

def k0_cond2 (i : grid0.Coords) : BitVec 1 :=
  let arg0 : BitVec 32 := BitVec.ofNat 32 (i 0).val
  let c6_i32_3 : BitVec 32 := 6#32
  let v8 : BitVec 1 := Scalar.cmpi .sge arg0 c6_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

@[reducible] def k1_t1_loop (i : grid1.Coords) : Scf.Loop 32 :=
  let c0_i32 : BitVec 32 := 0#32
  let arg0 : BitVec 32 := BitVec.ofNat 32 (i 0).val
  let v7 : BitVec 32 := Scalar.subi arg0 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_4 : BitVec 32 := 1#32
  ⟨c0_i32, v11, c1_i32_4⟩
def k1_off1 (i : grid1.Coords) (k1_t1 : Fin (k1_t1_loop i).trips) : Fin 2 → Nat :=
  let c0_i32 : BitVec 32 := 0#32
  let c1_i32_4 : BitVec 32 := 1#32
  let arg8 : BitVec 32 := Scf.iv c0_i32 c1_i32_4 k1_t1
  let c512_i32_23 : BitVec 32 := 512#32
  let v62 : BitVec 32 := Scalar.muli arg8 c512_i32_23
  let v63 : Index := Scalar.indexCast v62
  let c0_24 : Index := 0#32
  ![v63.toNat, 0]
@[reducible] def k1_t2_loop (i : grid1.Coords) : Scf.Loop 32 :=
  let c0_i32 : BitVec 32 := 0#32
  let arg0 : BitVec 32 := BitVec.ofNat 32 (i 0).val
  let v7 : BitVec 32 := Scalar.subi arg0 c0_i32
  let c1_i32 : BitVec 32 := 1#32
  let v9 : BitVec 32 := Scalar.divsi v7 c1_i32
  let v10 : BitVec 32 := Scalar.muli v9 c1_i32
  let v11 : BitVec 32 := Scalar.addi c0_i32 v10
  let v8 : BitVec 32 := Scalar.addi c0_i32 v7
  let c1_i32_5 : BitVec 32 := 1#32
  ⟨v11, v8, c1_i32_5⟩
def k1_off2 (i : grid1.Coords) (k1_t2 : Fin (k1_t2_loop i).trips) : Fin 2 → Nat :=
  let c0_i32 : BitVec 32 := 0#32
  let arg0 : BitVec 32 := BitVec.ofNat 32 (i 0).val
  let v7 : BitVec 32 := Scalar.subi arg0 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg8 : BitVec 32 := Scf.iv v11 c1_i32_5 k1_t2
  let c512_i32_23 : BitVec 32 := 512#32
  let v62 : BitVec 32 := Scalar.muli arg8 c512_i32_23
  let v63 : Index := Scalar.indexCast v62
  let c0_24 : Index := 0#32
  ![v63.toNat, 0]
def k1_off3 (i : grid1.Coords) : Fin 2 → Nat :=
  let arg0 : BitVec 32 := BitVec.ofNat 32 (i 0).val
  let c512_i32 : BitVec 32 := 512#32
  let v14 : BitVec 32 := Scalar.muli arg0 c512_i32
  let v15 : Index := Scalar.indexCast v14
  let c0_6 : Index := 0#32
  ![v15.toNat, 0]
def k1_off4 (i : grid1.Coords) : Fin 2 → Nat :=
  let arg1 : BitVec 32 := BitVec.ofNat 32 (i 1).val
  let c2_i32 : BitVec 32 := 2#32
  let v50 : BitVec 32 := Scalar.muli arg1 c2_i32
  let c128_i32 : BitVec 32 := 128#32
  let v51 : BitVec 32 := Scalar.muli v50 c128_i32
  let v52 : Index := Scalar.indexCast v51
  let c0_17 : Index := 0#32
  ![v52.toNat, 0]
def k1_cond1 (i : grid1.Coords) : BitVec 1 :=
  let arg1 : BitVec 32 := BitVec.ofNat 32 (i 1).val
  let c0_i32_19 : BitVec 32 := 0#32
  let v56 : BitVec 1 := Scalar.cmpi .eq arg1 c0_i32_19
  let v57 : BitVec 32 := Scalar.extui v56
  let c0_i32_20 : BitVec 32 := 0#32
  let v58 : BitVec 1 := Scalar.cmpi .ne v57 c0_i32_20
  v58

def k1_cond2 (i : grid1.Coords) : BitVec 1 :=
  let arg1 : BitVec 32 := BitVec.ofNat 32 (i 1).val
  let c0_i32_21 : BitVec 32 := 0#32
  let v59 : BitVec 1 := Scalar.cmpi .sgt arg1 c0_i32_21
  let v60 : BitVec 32 := Scalar.extui v59
  let c0_i32_22 : BitVec 32 := 0#32
  let v61 : BitVec 1 := Scalar.cmpi .ne v60 c0_i32_22
  v61

def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S2048x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S1x2048x2048 : Shape := ⟨3, ![1, 2048, 2048]⟩
abbrev S1x2048x128 : Shape := ⟨3, ![1, 2048, 128]⟩
abbrev S2048x2048 : Shape := ⟨2, ![2048, 2048]⟩
abbrev S2048x1024 : Shape := ⟨2, ![2048, 1024]⟩
abbrev S128 : Shape := ⟨1, ![128]⟩
abbrev S1x2048x16x128 : Shape := ⟨4, ![1, 2048, 16, 128]⟩
abbrev S_ : Shape := ⟨0, ![]⟩
abbrev S1x2048x16 : Shape := ⟨3, ![1, 2048, 16]⟩
abbrev S1x2048x16x1 : Shape := ⟨4, ![1, 2048, 16, 1]⟩
abbrev S1x1x1x128 : Shape := ⟨4, ![1, 1, 1, 128]⟩
abbrev S1x16x2048x128 : Shape := ⟨4, ![1, 16, 2048, 128]⟩
abbrev S1x2048x1024 : Shape := ⟨3, ![1, 2048, 1024]⟩
abbrev S1x2048x8x128 : Shape := ⟨4, ![1, 2048, 8, 128]⟩
abbrev S1x2048x8 : Shape := ⟨3, ![1, 2048, 8]⟩
abbrev S1x2048x8x1 : Shape := ⟨4, ![1, 2048, 8, 1]⟩
abbrev S1x8x2048x128 : Shape := ⟨4, ![1, 8, 2048, 128]⟩
abbrev S1x1x2048x128 : Shape := ⟨4, ![1, 1, 2048, 128]⟩
abbrev S1x16x2048x64 : Shape := ⟨4, ![1, 16, 2048, 64]⟩
abbrev S1x8x2048x64 : Shape := ⟨4, ![1, 8, 2048, 64]⟩
abbrev S1x8x2x2048x128 : Shape := ⟨5, ![1, 8, 2, 2048, 128]⟩
abbrev S1x16x2048x2048 : Shape := ⟨4, ![1, 16, 2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩

abbrev nBuf : Space → Nat
  | .hbm => 114
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x128, .f32⟩
  | .hbm, ⟨2, _⟩ => ⟨S1x2048x128, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x2048, .f32⟩
  | .hbm, ⟨7, _⟩ => ⟨S128, .f32⟩
  | .hbm, ⟨8, _⟩ => ⟨S128, .f32⟩
  | .hbm, ⟨9, _⟩ => ⟨S1x2048x2048, .f32⟩
  | .hbm, ⟨10, _⟩ => ⟨S1x2048x16x128, .f32⟩
  | .hbm, ⟨11, _⟩ => ⟨S1x2048x16x128, .f32⟩
  | .hbm, ⟨12, _⟩ => ⟨S_, .f32⟩
  | .hbm, ⟨13, _⟩ => ⟨S1x2048x16, .f32⟩
  | .hbm, ⟨14, _⟩ => ⟨S1x2048x16x1, .f32⟩
  | .hbm, ⟨15, _⟩ => ⟨S_, .f32⟩
  | .hbm, ⟨16, _⟩ => ⟨S1x2048x16x1, .f32⟩
  | .hbm, ⟨17, _⟩ => ⟨S1x2048x16x1, .f32⟩
  | .hbm, ⟨18, _⟩ => ⟨S_, .f32⟩
  | .hbm, ⟨19, _⟩ => ⟨S1x2048x16x1, .f32⟩
  | .hbm, ⟨20, _⟩ => ⟨S1x2048x16x1, .f32⟩
  | .hbm, ⟨21, _⟩ => ⟨S1x2048x16x1, .f32⟩
  | .hbm, ⟨22, _⟩ => ⟨S1x2048x16x128, .f32⟩
  | .hbm, ⟨23, _⟩ => ⟨S1x2048x16x128, .f32⟩
  | .hbm, ⟨24, _⟩ => ⟨S1x1x1x128, .f32⟩
  | .hbm, ⟨25, _⟩ => ⟨S1x2048x16x128, .f32⟩
  | .hbm, ⟨26, _⟩ => ⟨S1x2048x16x128, .f32⟩
  | .hbm, ⟨27, _⟩ => ⟨S1x16x2048x128, .f32⟩
  | .hbm, ⟨28, _⟩ => ⟨S1x2048x1024, .f32⟩
  | .hbm, ⟨29, _⟩ => ⟨S1x2048x8x128, .f32⟩
  | .hbm, ⟨30, _⟩ => ⟨S1x2048x8x128, .f32⟩
  | .hbm, ⟨31, _⟩ => ⟨S_, .f32⟩
  | .hbm, ⟨32, _⟩ => ⟨S1x2048x8, .f32⟩
  | .hbm, ⟨33, _⟩ => ⟨S1x2048x8x1, .f32⟩
  | .hbm, ⟨34, _⟩ => ⟨S_, .f32⟩
  | .hbm, ⟨35, _⟩ => ⟨S1x2048x8x1, .f32⟩
  | .hbm, ⟨36, _⟩ => ⟨S1x2048x8x1, .f32⟩
  | .hbm, ⟨37, _⟩ => ⟨S_, .f32⟩
  | .hbm, ⟨38, _⟩ => ⟨S1x2048x8x1, .f32⟩
  | .hbm, ⟨39, _⟩ => ⟨S1x2048x8x1, .f32⟩
  | .hbm, ⟨40, _⟩ => ⟨S1x2048x8x1, .f32⟩
  | .hbm, ⟨41, _⟩ => ⟨S1x2048x8x128, .f32⟩
  | .hbm, ⟨42, _⟩ => ⟨S1x2048x8x128, .f32⟩
  | .hbm, ⟨43, _⟩ => ⟨S1x1x1x128, .f32⟩
  | .hbm, ⟨44, _⟩ => ⟨S1x2048x8x128, .f32⟩
  | .hbm, ⟨45, _⟩ => ⟨S1x2048x8x128, .f32⟩
  | .hbm, ⟨46, _⟩ => ⟨S1x8x2048x128, .f32⟩
  | .hbm, ⟨47, _⟩ => ⟨S1x2048x1024, .f32⟩
  | .hbm, ⟨48, _⟩ => ⟨S1x2048x8x128, .f32⟩
  | .hbm, ⟨49, _⟩ => ⟨S1x8x2048x128, .f32⟩
  | .hbm, ⟨50, _⟩ => ⟨S1x1x2048x128, .f32⟩
  | .hbm, ⟨51, _⟩ => ⟨S1x1x2048x128, .f32⟩
  | .hbm, ⟨52, _⟩ => ⟨S1x16x2048x128, .f32⟩
  | .hbm, ⟨53, _⟩ => ⟨S1x16x2048x128, .f32⟩
  | .hbm, ⟨54, _⟩ => ⟨S1x16x2048x64, .f32⟩
  | .hbm, ⟨55, _⟩ => ⟨S1x16x2048x64, .f32⟩
  | .hbm, ⟨56, _⟩ => ⟨S1x16x2048x64, .f32⟩
  | .hbm, ⟨57, _⟩ => ⟨S1x16x2048x128, .f32⟩
  | .hbm, ⟨58, _⟩ => ⟨S1x16x2048x128, .f32⟩
  | .hbm, ⟨59, _⟩ => ⟨S1x16x2048x128, .f32⟩
  | .hbm, ⟨60, _⟩ => ⟨S1x16x2048x128, .f32⟩
  | .hbm, ⟨61, _⟩ => ⟨S1x8x2048x128, .f32⟩
  | .hbm, ⟨62, _⟩ => ⟨S1x8x2048x128, .f32⟩
  | .hbm, ⟨63, _⟩ => ⟨S1x8x2048x64, .f32⟩
  | .hbm, ⟨64, _⟩ => ⟨S1x8x2048x64, .f32⟩
  | .hbm, ⟨65, _⟩ => ⟨S1x8x2048x64, .f32⟩
  | .hbm, ⟨66, _⟩ => ⟨S1x8x2048x128, .f32⟩
  | .hbm, ⟨67, _⟩ => ⟨S1x8x2048x128, .f32⟩
  | .hbm, ⟨68, _⟩ => ⟨S1x8x2048x128, .f32⟩
  | .hbm, ⟨69, _⟩ => ⟨S1x8x2048x128, .f32⟩
  | .hbm, ⟨70, _⟩ => ⟨S1x8x2x2048x128, .f32⟩
  | .hbm, ⟨71, _⟩ => ⟨S1x16x2048x128, .f32⟩
  | .hbm, ⟨72, _⟩ => ⟨S1x8x2x2048x128, .f32⟩
  | .hbm, ⟨73, _⟩ => ⟨S1x16x2048x128, .f32⟩
  | .hbm, ⟨74, _⟩ => ⟨S1x16x2048x2048, .f32⟩
  | .hbm, ⟨75, _⟩ => ⟨S_, .f32⟩
  | .hbm, ⟨76, _⟩ => ⟨S_, .f32⟩
  | .hbm, ⟨77, _⟩ => ⟨S1x16x2048x2048, .f32⟩
  | .hbm, ⟨78, _⟩ => ⟨S1x16x2048x2048, .f32⟩
  | .hbm, ⟨79, _⟩ => ⟨S_, .i1⟩
  | .hbm, ⟨80, _⟩ => ⟨S2048x2048, .i1⟩
  | .hbm, ⟨81, _⟩ => ⟨S2048x2048, .i32⟩
  | .hbm, ⟨82, _⟩ => ⟨S_, .i32⟩
  | .hbm, ⟨83, _⟩ => ⟨S2048x2048, .i32⟩
  | .hbm, ⟨84, _⟩ => ⟨S2048x2048, .i32⟩
  | .hbm, ⟨85, _⟩ => ⟨S2048x2048, .i32⟩
  | .hbm, ⟨86, _⟩ => ⟨S2048x2048, .i1⟩
  | .hbm, ⟨87, _⟩ => ⟨S_, .i1⟩
  | .hbm, ⟨88, _⟩ => ⟨S2048x2048, .i1⟩
  | .hbm, ⟨89, _⟩ => ⟨S2048x2048, .i1⟩
  | .hbm, ⟨90, _⟩ => ⟨S1x1x2048x2048, .i1⟩
  | .hbm, ⟨91, _⟩ => ⟨S_, .f32⟩
  | .hbm, ⟨92, _⟩ => ⟨S_, .f32⟩
  | .hbm, ⟨93, _⟩ => ⟨S1x16x2048x2048, .i1⟩
  | .hbm, ⟨94, _⟩ => ⟨S1x16x2048x2048, .f32⟩
  | .hbm, ⟨95, _⟩ => ⟨S1x16x2048x2048, .f32⟩
  | .hbm, ⟨96, _⟩ => ⟨S_, .f32⟩
  | .hbm, ⟨97, _⟩ => ⟨S1x16x2048, .f32⟩
  | .hbm, ⟨98, _⟩ => ⟨S_, .f32⟩
  | .hbm, ⟨99, _⟩ => ⟨S1x16x2048, .f32⟩
  | .hbm, ⟨100, _⟩ => ⟨S1x16x2048, .f32⟩
  | .hbm, ⟨101, _⟩ => ⟨S1x16x2048x1, .f32⟩
  | .hbm, ⟨102, _⟩ => ⟨S1x16x2048x2048, .f32⟩
  | .hbm, ⟨103, _⟩ => ⟨S1x16x2048x2048, .f32⟩
  | .hbm, ⟨104, _⟩ => ⟨S1x16x2048x2048, .f32⟩
  | .hbm, ⟨105, _⟩ => ⟨S_, .f32⟩
  | .hbm, ⟨106, _⟩ => ⟨S1x16x2048, .f32⟩
  | .hbm, ⟨107, _⟩ => ⟨S1x16x2048x1, .f32⟩
  | .hbm, ⟨108, _⟩ => ⟨S1x16x2048x2048, .f32⟩
  | .hbm, ⟨109, _⟩ => ⟨S1x16x2048x2048, .f32⟩
  | .hbm, ⟨110, _⟩ => ⟨S1x16x2048x128, .f32⟩
  | .hbm, ⟨111, _⟩ => ⟨S1x2048x16x128, .f32⟩
  | .hbm, ⟨112, _⟩ => ⟨S1x2048x2048, .f32⟩
  | .hbm, ⟨113, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c : Ref sig .tc := ⟨.hbm, 79, rfl⟩
abbrev main_v63 : Ref sig .tc := ⟨.hbm, 80, rfl⟩
abbrev main_call0_v0 : Ref sig .tc := ⟨.hbm, 81, rfl⟩
abbrev main_call0_c : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_c_0 : Ref sig .tc := ⟨.hbm, 87, rfl⟩
abbrev main_call0_v5 : Ref sig .tc := ⟨.hbm, 88, rfl⟩
abbrev main_v64 : Ref sig .tc := ⟨.hbm, 89, rfl⟩
abbrev main_v65 : Ref sig .tc := ⟨.hbm, 90, rfl⟩
abbrev main_cst_6 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v66 : Ref sig .tc := ⟨.hbm, 95, rfl⟩
abbrev main_cst_7 : Ref sig .tc := ⟨.hbm, 96, rfl⟩
abbrev main_v67 : Ref sig .tc := ⟨.hbm, 97, rfl⟩
abbrev main_cst_8 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_9 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]
-- ==== Proof.KernelIdealQkv.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 0 of the program: the fused projection, its norm and rotation. Per branch of the body, the run on any
staging buffers; what the output buffer holds after each grid point; the region's proof data and body obligation. -/

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents at the region's entry
variable (V : (c : Dev nD) → (b : Ref sig .tc) → Buf (Elt F) ((c : Thread nD τ).loc b))

/-- Window `w`'s block of region 0 at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0 holds its block at every point, for any proof data over these arrays that leave it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 of region 0 holds its block at every point, for any proof data over these arrays that leave it there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 of region 0 holds its block at every point, for any proof data over these arrays that leave it there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 of region 0 holds its block at every point, for any proof data over these arrays that leave it there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 of region 0 holds its block at every point, for any proof data over these arrays that leave it there. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Region 0's first branch condition: the column block belongs to a query or key head. -/
abbrev cond0_0 (i : grid0.Coords) : Prop := k0_cond1 i = 1#1
/-- It holds at the first six grid points. -/
theorem hcond0_0 : ∀ t : Fin cfg0.N, cond0_0 (grid0.coords t) ↔ t.val < 6 :=
  (by decide +kernel : ∀ t : Fin grid0.N, cond0_0 (grid0.coords t) ↔ t.val < 6)

/-- Region 0's second branch condition: the column block belongs to the value heads. -/
abbrev cond0_1 (i : grid0.Coords) : Prop := k0_cond2 i = 1#1
/-- It holds from the seventh grid point on. -/
theorem hcond0_1 : ∀ t : Fin cfg0.N, cond0_1 (grid0.coords t) ↔ 6 ≤ t.val :=
  (by decide +kernel : ∀ t : Fin grid0.N, cond0_1 (grid0.coords t) ↔ 6 ≤ t.val)

/-- Window 0 of region 0 is not idle. -/
theorem liveAt0_0 : ∀ t : Fin cfg0.N, cfg0.idle 0 (grid0.coords t) = false := fun _ => rfl
/-- Window 1 of region 0 is not idle. -/
theorem liveAt0_1 : ∀ t : Fin cfg0.N, cfg0.idle 1 (grid0.coords t) = false := fun _ => rfl
/-- Window 2 of region 0 is not idle. -/
theorem liveAt0_2 : ∀ t : Fin cfg0.N, cfg0.idle 2 (grid0.coords t) = false := fun _ => rfl
/-- Window 3 of region 0 is not idle. -/
theorem liveAt0_3 : ∀ t : Fin cfg0.N, cfg0.idle 3 (grid0.coords t) = false := fun _ => rfl
/-- Window 4 of region 0 is not idle. -/
theorem liveAt0_4 : ∀ t : Fin cfg0.N, cfg0.idle 4 (grid0.coords t) = false := fun _ => rfl
/-- Window 5 of region 0 is not idle. -/
theorem liveAt0_5_A : ∀ t : Fin cfg0.N, cond0_0 (grid0.coords t) → ¬cond0_1 (grid0.coords t) → cfg0.idle 5 (grid0.coords t) = false := by decide +kernel
/-- Window 5 of region 0 is not idle. -/
theorem liveAt0_5_B : ∀ t : Fin cfg0.N, ¬cond0_0 (grid0.coords t) → cond0_1 (grid0.coords t) → cfg0.idle 5 (grid0.coords t) = false := by decide +kernel

/-- One staging buffer of region 0's output window, through which its contents are stated. -/
abbrev VO0_5 : View sig .tc .vmem S2048x512 .bf16 := (Memref.whole cc0_stg5_0 : Memref sig .tc .vmem S2048x512 .bf16).view
/-- Window 0's staging buffer of region 0 at point `t`. -/
abbrev ms0_0 (t : Fin cfg0.N) : Memref sig .tc .vmem S2048x2048 .bf16 := win0_0.stage (cfg0.slots t 0)
/-- It is whole. -/
abbrev hs0_0 (t : Fin cfg0.N) : (ms0_0 t).IsWhole := hstage0_0 ((cfg0.slots t 0).cast nbuf0_0)
/-- Window 1's staging buffer of region 0 at point `t`. -/
abbrev ms0_1 (t : Fin cfg0.N) : Memref sig .tc .vmem S2048x512 .bf16 := win0_1.stage (cfg0.slots t 1)
/-- It is whole. -/
abbrev hs0_1 (t : Fin cfg0.N) : (ms0_1 t).IsWhole := hstage0_1 ((cfg0.slots t 1).cast nbuf0_1)
/-- Window 2's staging buffer of region 0 at point `t`. -/
abbrev ms0_2 (t : Fin cfg0.N) : Memref sig .tc .vmem S1x1x512 .f32 := win0_2.stage (cfg0.slots t 2)
/-- It is whole. -/
abbrev hs0_2 (t : Fin cfg0.N) : (ms0_2 t).IsWhole := hstage0_2 ((cfg0.slots t 2).cast nbuf0_2)
/-- Window 3's staging buffer of region 0 at point `t`. -/
abbrev ms0_3 (t : Fin cfg0.N) : Memref sig .tc .vmem S2048x128 .f32 := win0_3.stage (cfg0.slots t 3)
/-- It is whole. -/
abbrev hs0_3 (t : Fin cfg0.N) : (ms0_3 t).IsWhole := hstage0_3 ((cfg0.slots t 3).cast nbuf0_3)
/-- Window 4's staging buffer of region 0 at point `t`. -/
abbrev ms0_4 (t : Fin cfg0.N) : Memref sig .tc .vmem S2048x128 .f32 := win0_4.stage (cfg0.slots t 4)
/-- It is whole. -/
abbrev hs0_4 (t : Fin cfg0.N) : (ms0_4 t).IsWhole := hstage0_4 ((cfg0.slots t 4).cast nbuf0_4)
/-- Window 5's staging buffer of region 0 at point `t`. -/
abbrev ms0_5 (t : Fin cfg0.N) : Memref sig .tc .vmem S2048x512 .bf16 := win0_5.stage (cfg0.slots t 5)
/-- It is whole. -/
abbrev hs0_5 (t : Fin cfg0.N) : (ms0_5 t).IsWhole := hstage0_5 ((cfg0.slots t 5).cast nbuf0_5)

set_option maxHeartbeats 1000000 in
/-- The body of region 0 at a query or key block, run on any whole staging buffers: the pieces it stores, and
    that it runs to any continuation which holds the inputs unchanged and the output with those pieces written. -/
noncomputable def kernelRun0_A (c : Dev nD) (i : grid0.Coords) (arg1 : Memref sig .tc .vmem S2048x2048 .bf16) (harg1 : arg1.IsWhole) (arg2 : Memref sig .tc .vmem S2048x512 .bf16) (harg2 : arg2.IsWhole) (arg3 : Memref sig .tc .vmem S1x1x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .bf16) (harg6 : arg6.IsWhole) (hc0 : cond0_0 i) (hc1 : ¬cond0_1 i)
    (x0 : Vec F S2048x2048 .bf16) (x1 : Vec F S2048x512 .bf16) (x2 : Vec F S1x1x512 .f32) (x3 : Vec F S2048x128 .f32) (x4 : Vec F S2048x128 .f32) :
    { L5 : List (View.Piece (Elt F) S2048x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0__qkv_kernel i arg1 harg1 arg2 harg2 arg3 harg3 arg4 harg4 arg5 harg5 arg6 harg6) K } := by
  refine ⟨?_, fun E K => ?run⟩
  case run =>
    simp only [cc0__qkv_kernel_eq_skeleton]; unfold cc0__qkv_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The pieces stored at a query or key block cover the output block. -/
theorem cover0_A_5 (c : Dev nD) (i : grid0.Coords) (arg1 : Memref sig .tc .vmem S2048x2048 .bf16) (harg1 : arg1.IsWhole) (arg2 : Memref sig .tc .vmem S2048x512 .bf16) (harg2 : arg2.IsWhole) (arg3 : Memref sig .tc .vmem S1x1x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .bf16) (harg6 : arg6.IsWhole) (hc0 : cond0_0 i) (hc1 : ¬cond0_1 i)
    (x0 : Vec F S2048x2048 .bf16) (x1 : Vec F S2048x512 .bf16) (x2 : Vec F S1x1x512 .f32) (x3 : Vec F S2048x128 .f32) (x4 : Vec F S2048x128 .f32) (y : S2048x512.Idx) :
    ∃ pc ∈ (kernelRun0_A c i arg1 harg1 arg2 harg2 arg3 harg3 arg4 harg4 arg5 harg5 arg6 harg6 hc0 hc1 x0 x1 x2 x3 x4).1, y ∈ pc.1.set :=
  View.cover_of_tiledL (kernelRun0_A c i arg1 harg1 arg2 harg2 arg3 harg3 arg4 harg4 arg5 harg5 arg6 harg6 hc0 hc1 x0 x1 x2 x3 x4).1 S2048x512.size (by sl_kernel_rfl) y

/-- What a query or key block's body leaves in the output's staging buffer. -/
def out0_A_5 (c : Dev nD) (i : grid0.Coords) (arg1 : Memref sig .tc .vmem S2048x2048 .bf16) (harg1 : arg1.IsWhole) (arg2 : Memref sig .tc .vmem S2048x512 .bf16) (harg2 : arg2.IsWhole) (arg3 : Memref sig .tc .vmem S1x1x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .bf16) (harg6 : arg6.IsWhole) (hc0 : cond0_0 i) (hc1 : ¬cond0_1 i)
    (x0 : Vec F S2048x2048 .bf16) (x1 : Vec F S2048x512 .bf16) (x2 : Vec F S1x1x512 .f32) (x3 : Vec F S2048x128 .f32) (x4 : Vec F S2048x128 .f32) : Vec F S2048x512 .bf16 :=
  VO0_5.read (Elt F) (VO0_5.writes (Elt F) VO0_5.junk (kernelRun0_A c i arg1 harg1 arg2 harg2 arg3 harg3 arg4 harg4 arg5 harg5 arg6 harg6 hc0 hc1 x0 x1 x2 x3 x4).1)

set_option maxHeartbeats 1000000 in
/-- The body of region 0 at a value block, run on any whole staging buffers: the pieces it stores, and
    that it runs to any continuation which holds the inputs unchanged and the output with those pieces written. -/
noncomputable def kernelRun0_B (c : Dev nD) (i : grid0.Coords) (arg1 : Memref sig .tc .vmem S2048x2048 .bf16) (harg1 : arg1.IsWhole) (arg2 : Memref sig .tc .vmem S2048x512 .bf16) (harg2 : arg2.IsWhole) (arg3 : Memref sig .tc .vmem S1x1x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .bf16) (harg6 : arg6.IsWhole) (hc0 : ¬cond0_0 i) (hc1 : cond0_1 i)
    (x0 : Vec F S2048x2048 .bf16) (x1 : Vec F S2048x512 .bf16) (x2 : Vec F S1x1x512 .f32) (x3 : Vec F S2048x128 .f32) (x4 : Vec F S2048x128 .f32) :
    { L5 : List (View.Piece (Elt F) S2048x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0__qkv_kernel i arg1 harg1 arg2 harg2 arg3 harg3 arg4 harg4 arg5 harg5 arg6 harg6) K } := by
  refine ⟨?_, fun E K => ?run⟩
  case run =>
    simp only [cc0__qkv_kernel_eq_skeleton]; unfold cc0__qkv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The pieces stored at a value block cover the output block. -/
theorem cover0_B_5 (c : Dev nD) (i : grid0.Coords) (arg1 : Memref sig .tc .vmem S2048x2048 .bf16) (harg1 : arg1.IsWhole) (arg2 : Memref sig .tc .vmem S2048x512 .bf16) (harg2 : arg2.IsWhole) (arg3 : Memref sig .tc .vmem S1x1x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .bf16) (harg6 : arg6.IsWhole) (hc0 : ¬cond0_0 i) (hc1 : cond0_1 i)
    (x0 : Vec F S2048x2048 .bf16) (x1 : Vec F S2048x512 .bf16) (x2 : Vec F S1x1x512 .f32) (x3 : Vec F S2048x128 .f32) (x4 : Vec F S2048x128 .f32) (y : S2048x512.Idx) :
    ∃ pc ∈ (kernelRun0_B c i arg1 harg1 arg2 harg2 arg3 harg3 arg4 harg4 arg5 harg5 arg6 harg6 hc0 hc1 x0 x1 x2 x3 x4).1, y ∈ pc.1.set :=
  View.cover_of_tiledL (kernelRun0_B c i arg1 harg1 arg2 harg2 arg3 harg3 arg4 harg4 arg5 harg5 arg6 harg6 hc0 hc1 x0 x1 x2 x3 x4).1 S2048x512.size (by sl_kernel_rfl) y

/-- What a value block's body leaves in the output's staging buffer. -/
def out0_B_5 (c : Dev nD) (i : grid0.Coords) (arg1 : Memref sig .tc .vmem S2048x2048 .bf16) (harg1 : arg1.IsWhole) (arg2 : Memref sig .tc .vmem S2048x512 .bf16) (harg2 : arg2.IsWhole) (arg3 : Memref sig .tc .vmem S1x1x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .bf16) (harg6 : arg6.IsWhole) (hc0 : ¬cond0_0 i) (hc1 : cond0_1 i)
    (x0 : Vec F S2048x2048 .bf16) (x1 : Vec F S2048x512 .bf16) (x2 : Vec F S1x1x512 .f32) (x3 : Vec F S2048x128 .f32) (x4 : Vec F S2048x128 .f32) : Vec F S2048x512 .bf16 :=
  VO0_5.read (Elt F) (VO0_5.writes (Elt F) VO0_5.junk (kernelRun0_B c i arg1 harg1 arg2 harg2 arg3 harg3 arg4 harg4 arg5 harg5 arg6 harg6 hc0 hc1 x0 x1 x2 x3 x4).1)

/-- What region 0's output buffer holds after the body at position `n`. -/
def outsAt0 (c : Dev nD) : (n : ℕ) → n < cfg0.N → Vec F S2048x512 .bf16
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (by (try dsimp only); omega)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn =>
    if h0 : (n + 1) < 6 then
      if h1 : 6 ≤ (n + 1) then
        False.elim (by have hN : n + 1 < 8 := lt_of_lt_of_eq hn (show cfg0.N = 8 from N_0); omega)
      else
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
    else
      if h1 : 6 ≤ (n + 1) then
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
      else
        False.elim (by have hN : n + 1 < 8 := lt_of_lt_of_eq hn (show cfg0.N = 8 from N_0); omega)

/-- `outsAt0` at a query or key block. -/
theorem outsAt0_A (c : Dev nD) (t : Fin cfg0.N) (h0 : t.val < 6) (h1 : ¬6 ≤ t.val) :
    outsAt0 V c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk0 V c 0 t) (iblk0 V c 1 t) (iblk0 V c 2 t) (iblk0 V c 3 t) (iblk0 V c 4 t) := by
  obtain ⟨n, hn⟩ := t
  cases n with
  | zero => exact rfl
  | succ n => exact (dif_pos h0).trans ((dif_neg h1).trans rfl)

/-- `outsAt0` at a value block. -/
theorem outsAt0_B (c : Dev nD) (t : Fin cfg0.N) (h0 : ¬t.val < 6) (h1 : 6 ≤ t.val) :
    outsAt0 V c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk0 V c 0 t) (iblk0 V c 1 t) (iblk0 V c 2 t) (iblk0 V c 3 t) (iblk0 V c 4 t) := by
  obtain ⟨n, hn⟩ := t
  cases n with
  | zero => exact (by exfalso; (try dsimp only at h0); exact by omega)
  | succ n => exact (dif_neg h0).trans ((dif_pos h1).trans rfl)

/-- Region 0's proof data on core `c`, from the buffer contents `V` at its entry. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt)
  Φ _ := Pipeline.ΦA spec0 c
  q _ := fullShare
  owed _ := 0

/-- The arrays of region 0's proof data are the entry contents. -/
theorem A_eq0 (c : Dev nD) (w : Fin cfg0.W) : (dat0 V c).A w = V c (Pipeline.arrRef spec0 w) := by
  dsimp only [dat0]

/-- What the body of region 0 leaves in window 0. -/
theorem after0_0 (c : Dev nD) (t : Fin cfg0.N) : (dat0 V c).after 0 t = iblk0 V c 0 t := by dsimp only [dat0]
/-- What the body of region 0 leaves in window 1. -/
theorem after0_1 (c : Dev nD) (t : Fin cfg0.N) : (dat0 V c).after 1 t = iblk0 V c 1 t := by dsimp only [dat0]
/-- What the body of region 0 leaves in window 2. -/
theorem after0_2 (c : Dev nD) (t : Fin cfg0.N) : (dat0 V c).after 2 t = iblk0 V c 2 t := by dsimp only [dat0]
/-- What the body of region 0 leaves in window 3. -/
theorem after0_3 (c : Dev nD) (t : Fin cfg0.N) : (dat0 V c).after 3 t = iblk0 V c 3 t := by dsimp only [dat0]
/-- What the body of region 0 leaves in window 4. -/
theorem after0_4 (c : Dev nD) (t : Fin cfg0.N) : (dat0 V c).after 4 t = iblk0 V c 4 t := by dsimp only [dat0]
/-- What the body of region 0 leaves in window 5. -/
theorem after0_5 (c : Dev nD) (t : Fin cfg0.N) : (dat0 V c).after 5 t = (outsAt0 V c t.val t.isLt) := by dsimp only [dat0]

/-- Input window 0 of region 0 holds its block at every point. -/
theorem before0_0 (c : Dev nD) (t : Fin cfg0.N) (d) : (dat0 V c).before 0 t d = iblk0 V c 0 t :=
  before0_0_of V (dat0 V c) (A_eq0 V c 0) (after0_0 V c) t d
/-- Input window 1 of region 0 holds its block at every point. -/
theorem before0_1 (c : Dev nD) (t : Fin cfg0.N) (d) : (dat0 V c).before 1 t d = iblk0 V c 1 t :=
  before0_1_of V (dat0 V c) (A_eq0 V c 1) (after0_1 V c) t d
/-- Input window 2 of region 0 holds its block at every point. -/
theorem before0_2 (c : Dev nD) (t : Fin cfg0.N) (d) : (dat0 V c).before 2 t d = iblk0 V c 2 t :=
  before0_2_of V (dat0 V c) (A_eq0 V c 2) (after0_2 V c) t d
/-- Input window 3 of region 0 holds its block at every point. -/
theorem before0_3 (c : Dev nD) (t : Fin cfg0.N) (d) : (dat0 V c).before 3 t d = iblk0 V c 3 t :=
  before0_3_of V (dat0 V c) (A_eq0 V c 3) (after0_3 V c) t d
/-- Input window 4 of region 0 holds its block at every point. -/
theorem before0_4 (c : Dev nD) (t : Fin cfg0.N) (d) : (dat0 V c).before 4 t d = iblk0 V c 4 t :=
  before0_4_of V (dat0 V c) (A_eq0 V c 4) (after0_4 V c) t d

/-- What region 0's body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- What region 0's body returns at point `t`. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 800000 in
/-- Region 0's body at any grid point meets its specification. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl]
  have hN : t.val < 8 := lt_of_lt_of_eq t.isLt (show cfg0.N = 8 from N_0)
  by_cases h0 : t.val < 6
  · by_cases h1 : 6 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5_A t ((hcond0_0 t).mpr h0) (fun h => h1 ((hcond0_1 t).mp h))], after0_5]
      rw [outsAt0_A V c t h0 h1]
      unfold out0_A_5
      iintro ⟨HΦ, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _)
  · by_cases h1 : 6 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5_B t (fun h => h0 ((hcond0_0 t).mp h)) ((hcond0_1 t).mpr h1)], after0_5]
      rw [outsAt0_B V c t h0 h1]
      unfold out0_B_5
      iintro ⟨HΦ, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _)
    · exfalso; omega

/-- The body table's row for region 0 is the body. -/
theorem defs₀_row0 (t : Fin cfg0.N) :
    defs₀ (F := F) .tc cfg0.body (cfg0.bodyArgs t (cfg0.slots t)) = bodyAt0 t := by
  unfold defs₀; rw [Defs.onTc_tc]

/-- Region 0's body obligation, at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.KernelIdealAttnSetup.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! Region 1 of the program, attention and output projection: its windows' blocks, its branch conditions over the
grid, and its staging buffers. -/

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents at the region's entry
variable (V : (c : Dev nD) → (b : Ref sig .tc) → Buf (Elt F) ((c : Thread nD τ).loc b))

/-- Window `w`'s block of region 1 at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1 holds its block at every point, for any proof data over these arrays that leave it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 of region 1 holds its block at every point, for any proof data over these arrays that leave it there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 of region 1 holds its block at every point, for any proof data over these arrays that leave it there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 of region 1 holds its block at every point, for any proof data over these arrays that leave it there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 of region 1 holds its block at every point, for any proof data over these arrays that leave it there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Region 1's first branch condition: the first key-value head of a row block. -/
abbrev cond1_0 (i : grid1.Coords) : Prop := k1_cond1 i = 1#1
/-- It holds at every eighth grid point. -/
theorem hcond1_0 : ∀ t : Fin cfg1.N, cond1_0 (grid1.coords t) ↔ t.val % 8 = 0 :=
  (fun t => by
    have ht : t.val < 32 := Nat.lt_of_lt_of_eq t.isLt N_1
    have e0 : (grid1.coords t 0).val = t.val / 8 % 4 := Pipeline.Grid.coords_val t 0 (by decide) rfl
    have e1 : (grid1.coords t 1).val = t.val / 1 % 8 := Pipeline.Grid.coords_val t 1 (by decide) rfl
    simp only [cond1_0, k1_cond1, e0, e1]
    word_cmp
   : ∀ t : Fin grid1.N, cond1_0 (grid1.coords t) ↔ t.val % 8 = 0)

/-- Region 1's second branch condition: a later key-value head of the row block. -/
abbrev cond1_1 (i : grid1.Coords) : Prop := k1_cond2 i = 1#1
/-- It holds at all the other grid points. -/
theorem hcond1_1 : ∀ t : Fin cfg1.N, cond1_1 (grid1.coords t) ↔ 1 ≤ t.val % 8 :=
  (by decide +kernel : ∀ t : Fin grid1.N, cond1_1 (grid1.coords t) ↔ 1 ≤ t.val % 8)

/-- Window 0 of region 1 is not idle. -/
theorem liveAt1_0 : ∀ t : Fin cfg1.N, cfg1.idle 0 (grid1.coords t) = false := fun _ => rfl
/-- Window 1 of region 1 is not idle. -/
theorem liveAt1_1 : ∀ t : Fin cfg1.N, cfg1.idle 1 (grid1.coords t) = false := fun _ => rfl
/-- Window 2 of region 1 is not idle. -/
theorem liveAt1_2 : ∀ t : Fin cfg1.N, cfg1.idle 2 (grid1.coords t) = false := fun _ => rfl
/-- Window 3 of region 1 is not idle. -/
theorem liveAt1_3 : ∀ t : Fin cfg1.N, cfg1.idle 3 (grid1.coords t) = false := fun _ => rfl
/-- Window 4 of region 1 is not idle. -/
theorem liveAt1_4 : ∀ t : Fin cfg1.N, cfg1.idle 4 (grid1.coords t) = false := fun _ => rfl
/-- Whether region 1's output buffer holds nothing stored since the last write-back, position by position. -/
def freshTab1_5 : ℕ → Bool
  | 0 => true
  | n + 1 => (0x80808080 : ℕ).testBit n
/-- The table follows the pipeline's own rule from each position to the next. -/
theorem freshTab1_5_step : ∀ t : Fin cfg1.N,
    freshTab1_5 (t.val + 1) = ((cfg1.win 5).flush t || (cfg1.idle 5 (cfg1.grid.coords t) && freshTab1_5 t.val)) := by decide +kernel
/-- So the table is the pipeline's freshness. -/
theorem fresh1_5_eq (t : Fin cfg1.N) : cfg1.fresh 5 t.val = freshTab1_5 t.val :=
  Pipeline.Cfg.fresh_tab cfg1 5 freshTab1_5 rfl freshTab1_5_step t.val (Nat.le_of_lt t.isLt)
/-- Window 5 of region 1 is not idle. -/
theorem liveAt1_5_A : ∀ t : Fin cfg1.N, cond1_0 (grid1.coords t) → ¬cond1_1 (grid1.coords t) → cfg1.idle 5 (grid1.coords t) = false := by decide +kernel
/-- Window 5 of region 1 is not idle. -/
theorem liveAt1_5_B : ∀ t : Fin cfg1.N, ¬cond1_0 (grid1.coords t) → cond1_1 (grid1.coords t) → cfg1.idle 5 (grid1.coords t) = false := by decide +kernel
/-- At a later key-value head the output buffer still holds what the point before left. -/
theorem notFresh1_5_B : ∀ t : Fin cfg1.N, ¬cond1_0 (grid1.coords t) → cond1_1 (grid1.coords t) → cfg1.fresh 5 t.val = false := by
  intro t; rw [fresh1_5_eq t]; revert t; decide +kernel

/-- One staging buffer of region 1's output window, through which its contents are stated. -/
abbrev VO1_5 : View sig .tc .vmem S512x2048 .f32 := (Memref.whole cc1_stg5_0 : Memref sig .tc .vmem S512x2048 .f32).view
/-- Window 0's staging buffer of region 1 at point `t`. -/
abbrev ms1_0 (t : Fin cfg1.N) : Memref sig .tc .vmem S512x128 .bf16 := win1_0.stage (cfg1.slots t 0)
/-- It is whole. -/
abbrev hs1_0 (t : Fin cfg1.N) : (ms1_0 t).IsWhole := hstage1_0 ((cfg1.slots t 0).cast nbuf1_0)
/-- Window 1's staging buffer of region 1 at point `t`. -/
abbrev ms1_1 (t : Fin cfg1.N) : Memref sig .tc .vmem S512x128 .bf16 := win1_1.stage (cfg1.slots t 1)
/-- It is whole. -/
abbrev hs1_1 (t : Fin cfg1.N) : (ms1_1 t).IsWhole := hstage1_1 ((cfg1.slots t 1).cast nbuf1_1)
/-- Window 2's staging buffer of region 1 at point `t`. -/
abbrev ms1_2 (t : Fin cfg1.N) : Memref sig .tc .vmem S2048x128 .bf16 := win1_2.stage (cfg1.slots t 2)
/-- It is whole. -/
abbrev hs1_2 (t : Fin cfg1.N) : (ms1_2 t).IsWhole := hstage1_2 ((cfg1.slots t 2).cast nbuf1_2)
/-- Window 3's staging buffer of region 1 at point `t`. -/
abbrev ms1_3 (t : Fin cfg1.N) : Memref sig .tc .vmem S2048x128 .bf16 := win1_3.stage (cfg1.slots t 3)
/-- It is whole. -/
abbrev hs1_3 (t : Fin cfg1.N) : (ms1_3 t).IsWhole := hstage1_3 ((cfg1.slots t 3).cast nbuf1_3)
/-- Window 4's staging buffer of region 1 at point `t`. -/
abbrev ms1_4 (t : Fin cfg1.N) : Memref sig .tc .vmem S2048x2048 .bf16 := win1_4.stage (cfg1.slots t 4)
/-- It is whole. -/
abbrev hs1_4 (t : Fin cfg1.N) : (ms1_4 t).IsWhole := hstage1_4 ((cfg1.slots t 4).cast nbuf1_4)
/-- Window 5's staging buffer of region 1 at point `t`. -/
abbrev ms1_5 (t : Fin cfg1.N) : Memref sig .tc .vmem S512x2048 .f32 := win1_5.stage (cfg1.slots t 5)
/-- It is whole. -/
abbrev hs1_5 (t : Fin cfg1.N) : (ms1_5 t).IsWhole := hstage1_5 ((cfg1.slots t 5).cast nbuf1_5)

end Cert.KernelIdeal.Whole

end
-- ==== Proof.KernelIdealAttnFirst.lean ====
module

public import proofs.«01_k».proof.Proof.KernelIdealAttnSetup

/-! Region 1's body at the first key-value head of a row block: its run. -/

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body of region 1 at the first key-value head of a row block, run on any whole staging buffers: the pieces
    it stores, and that it runs to any continuation which holds the inputs unchanged and the output with those pieces written. -/
noncomputable def kernelRun1_A (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x2048 .bf16) (harg6 : arg6.IsWhole) (arg7 : Memref sig .tc .vmem S512x2048 .f32) (harg7 : arg7.IsWhole) (hc0 : cond1_0 i) (hc1 : ¬cond1_1 i)
    (x0 : Vec F S512x128 .bf16) (x1 : Vec F S512x128 .bf16) (x2 : Vec F S2048x128 .bf16) (x3 : Vec F S2048x128 .bf16) (x4 : Vec F S2048x2048 .bf16) :
    { L5 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1__attn_oproj_kernel i arg2 harg2 arg3 harg3 arg4 harg4 arg5 harg5 arg6 harg6 arg7 harg7) K } := by
  refine ⟨?_, fun E K => ?run⟩
  case run =>
    simp only [cc1__attn_oproj_kernel_eq_skeleton]; unfold cc1__attn_oproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Whole

end
-- ==== Proof.KernelIdealAttnNext.lean ====
module

public import proofs.«01_k».proof.Proof.KernelIdealAttnSetup

/-! Region 1's body at a later key-value head of a row block: its run. -/

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body of region 1 at a later key-value head, run on any whole staging buffers, the output's at `xo5`: the
    pieces it stores, and that it runs to any continuation which holds the inputs unchanged and the output with those
    pieces written. -/
noncomputable def kernelRun1_B (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x2048 .bf16) (harg6 : arg6.IsWhole) (arg7 : Memref sig .tc .vmem S512x2048 .f32) (harg7 : arg7.IsWhole) (hc0 : ¬cond1_0 i) (hc1 : cond1_1 i)
    (x0 : Vec F S512x128 .bf16) (x1 : Vec F S512x128 .bf16) (x2 : Vec F S2048x128 .bf16) (x3 : Vec F S2048x128 .bf16) (x4 : Vec F S2048x2048 .bf16) (xo5 : Vec F S512x2048 .f32) :
    { L5 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc1__attn_oproj_kernel i arg2 harg2 arg3 harg3 arg4 harg4 arg5 harg5 arg6 harg6 arg7 harg7) K } := by
  refine ⟨?_, fun E K => ?run⟩
  case run =>
    simp only [cc1__attn_oproj_kernel_eq_skeleton]; unfold cc1__attn_oproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Whole

end
-- ==== Proof.KernelIdealAttn.lean ====
module

public import proofs.«01_k».proof.Proof.KernelIdealAttnFirst
public import proofs.«01_k».proof.Proof.KernelIdealAttnNext

/-! Region 1 of the program: what its output buffer holds after each grid point (the sum over key-value heads so
far), the region's proof data and its body obligation. -/

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents at the region's entry
variable (V : (c : Dev nD) → (b : Ref sig .tc) → Buf (Elt F) ((c : Thread nD τ).loc b))

/-- The pieces stored at the first key-value head cover the output block. -/
theorem cover1_A_5 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x2048 .bf16) (harg6 : arg6.IsWhole) (arg7 : Memref sig .tc .vmem S512x2048 .f32) (harg7 : arg7.IsWhole) (hc0 : cond1_0 i) (hc1 : ¬cond1_1 i)
    (x0 : Vec F S512x128 .bf16) (x1 : Vec F S512x128 .bf16) (x2 : Vec F S2048x128 .bf16) (x3 : Vec F S2048x128 .bf16) (x4 : Vec F S2048x2048 .bf16) (y : S512x2048.Idx) :
    ∃ pc ∈ (kernelRun1_A c i arg2 harg2 arg3 harg3 arg4 harg4 arg5 harg5 arg6 harg6 arg7 harg7 hc0 hc1 x0 x1 x2 x3 x4).1, y ∈ pc.1.set :=
  View.cover_of_tiledL (kernelRun1_A c i arg2 harg2 arg3 harg3 arg4 harg4 arg5 harg5 arg6 harg6 arg7 harg7 hc0 hc1 x0 x1 x2 x3 x4).1 S512x2048.size (by sl_kernel_rfl) y

/-- What the first key-value head's body leaves in the output's staging buffer. -/
def out1_A_5 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x2048 .bf16) (harg6 : arg6.IsWhole) (arg7 : Memref sig .tc .vmem S512x2048 .f32) (harg7 : arg7.IsWhole) (hc0 : cond1_0 i) (hc1 : ¬cond1_1 i)
    (x0 : Vec F S512x128 .bf16) (x1 : Vec F S512x128 .bf16) (x2 : Vec F S2048x128 .bf16) (x3 : Vec F S2048x128 .bf16) (x4 : Vec F S2048x2048 .bf16) : Vec F S512x2048 .f32 :=
  VO1_5.read (Elt F) (VO1_5.writes (Elt F) VO1_5.junk (kernelRun1_A c i arg2 harg2 arg3 harg3 arg4 harg4 arg5 harg5 arg6 harg6 arg7 harg7 hc0 hc1 x0 x1 x2 x3 x4).1)

/-- The pieces stored at a later key-value head cover the output block. -/
theorem cover1_B_5 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x2048 .bf16) (harg6 : arg6.IsWhole) (arg7 : Memref sig .tc .vmem S512x2048 .f32) (harg7 : arg7.IsWhole) (hc0 : ¬cond1_0 i) (hc1 : cond1_1 i)
    (x0 : Vec F S512x128 .bf16) (x1 : Vec F S512x128 .bf16) (x2 : Vec F S2048x128 .bf16) (x3 : Vec F S2048x128 .bf16) (x4 : Vec F S2048x2048 .bf16) (xo5 : Vec F S512x2048 .f32) (y : S512x2048.Idx) :
    ∃ pc ∈ (kernelRun1_B c i arg2 harg2 arg3 harg3 arg4 harg4 arg5 harg5 arg6 harg6 arg7 harg7 hc0 hc1 x0 x1 x2 x3 x4 xo5).1, y ∈ pc.1.set :=
  View.cover_of_tiledL (kernelRun1_B c i arg2 harg2 arg3 harg3 arg4 harg4 arg5 harg5 arg6 harg6 arg7 harg7 hc0 hc1 x0 x1 x2 x3 x4 xo5).1 S512x2048.size (by sl_kernel_rfl) y

/-- What a later key-value head's body leaves in the output's staging buffer, from the contents `xo5` it found there. -/
def out1_B_5 (c : Dev nD) (i : grid1.Coords) (arg2 : Memref sig .tc .vmem S512x128 .bf16) (harg2 : arg2.IsWhole) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x2048 .bf16) (harg6 : arg6.IsWhole) (arg7 : Memref sig .tc .vmem S512x2048 .f32) (harg7 : arg7.IsWhole) (hc0 : ¬cond1_0 i) (hc1 : cond1_1 i)
    (x0 : Vec F S512x128 .bf16) (x1 : Vec F S512x128 .bf16) (x2 : Vec F S2048x128 .bf16) (x3 : Vec F S2048x128 .bf16) (x4 : Vec F S2048x2048 .bf16) (xo5 : Vec F S512x2048 .f32) : Vec F S512x2048 .f32 :=
  VO1_5.read (Elt F) (VO1_5.writes (Elt F) VO1_5.junk (kernelRun1_B c i arg2 harg2 arg3 harg3 arg4 harg4 arg5 harg5 arg6 harg6 arg7 harg7 hc0 hc1 x0 x1 x2 x3 x4 xo5).1)

/-- What region 1's output buffer holds after the body at position `n`: started at the first key-value head of a
    row block, then accumulated over what position `n - 1` left. -/
def outsAt1 (c : Dev nD) : (n : ℕ) → n < cfg1.N → Vec F S512x2048 .f32
  | 0, hn => out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 8 = 0 then
      if h1 : 1 ≤ (n + 1) % 8 then
        False.elim (by have hN : n + 1 < 32 := lt_of_lt_of_eq hn (show cfg1.N = 32 from N_1); omega)
      else
        out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : 1 ≤ (n + 1) % 8 then
        out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))
      else
        False.elim (by have hN : n + 1 < 32 := lt_of_lt_of_eq hn (show cfg1.N = 32 from N_1); omega)

/-- `outsAt1` at the first key-value head of a row block. -/
theorem outsAt1_A (c : Dev nD) (t : Fin cfg1.N) (h0 : t.val % 8 = 0) (h1 : ¬1 ≤ t.val % 8) :
    outsAt1 V c t.val t.isLt = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans ((dif_neg h1).trans rfl)

/-- `outsAt1` at a later key-value head, over what the point before left. -/
theorem outsAt1_B (c : Dev nD) (t : Fin cfg1.N) (h0 : ¬t.val % 8 = 0) (h1 : 1 ≤ t.val % 8) :
    outsAt1 V c t.val t.isLt = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- Region 1's proof data on core `c`, from the buffer contents `V` at its entry; four input windows share one array,
    each holding its share of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt)
  Φ _ := Pipeline.ΦA spec1 c
  q w := Pipeline.shareOf spec1 w
  owed _ := 0

/-- The arrays of region 1's proof data are the entry contents. -/
theorem A_eq1 (c : Dev nD) (w : Fin cfg1.W) : (dat1 V c).A w = V c (Pipeline.arrRef spec1 w) := by
  dsimp only [dat1]

/-- What the body of region 1 leaves in window 0. -/
theorem after1_0 (c : Dev nD) (t : Fin cfg1.N) : (dat1 V c).after 0 t = iblk1 V c 0 t := by dsimp only [dat1]
/-- What the body of region 1 leaves in window 1. -/
theorem after1_1 (c : Dev nD) (t : Fin cfg1.N) : (dat1 V c).after 1 t = iblk1 V c 1 t := by dsimp only [dat1]
/-- What the body of region 1 leaves in window 2. -/
theorem after1_2 (c : Dev nD) (t : Fin cfg1.N) : (dat1 V c).after 2 t = iblk1 V c 2 t := by dsimp only [dat1]
/-- What the body of region 1 leaves in window 3. -/
theorem after1_3 (c : Dev nD) (t : Fin cfg1.N) : (dat1 V c).after 3 t = iblk1 V c 3 t := by dsimp only [dat1]
/-- What the body of region 1 leaves in window 4. -/
theorem after1_4 (c : Dev nD) (t : Fin cfg1.N) : (dat1 V c).after 4 t = iblk1 V c 4 t := by dsimp only [dat1]
/-- What the body of region 1 leaves in window 5. -/
theorem after1_5 (c : Dev nD) (t : Fin cfg1.N) : (dat1 V c).after 5 t = (outsAt1 V c t.val t.isLt) := by dsimp only [dat1]

/-- Input window 0 of region 1 holds its block at every point. -/
theorem before1_0 (c : Dev nD) (t : Fin cfg1.N) (d) : (dat1 V c).before 0 t d = iblk1 V c 0 t :=
  before1_0_of V (dat1 V c) (A_eq1 V c 0) (after1_0 V c) t d
/-- Input window 1 of region 1 holds its block at every point. -/
theorem before1_1 (c : Dev nD) (t : Fin cfg1.N) (d) : (dat1 V c).before 1 t d = iblk1 V c 1 t :=
  before1_1_of V (dat1 V c) (A_eq1 V c 1) (after1_1 V c) t d
/-- Input window 2 of region 1 holds its block at every point. -/
theorem before1_2 (c : Dev nD) (t : Fin cfg1.N) (d) : (dat1 V c).before 2 t d = iblk1 V c 2 t :=
  before1_2_of V (dat1 V c) (A_eq1 V c 2) (after1_2 V c) t d
/-- Input window 3 of region 1 holds its block at every point. -/
theorem before1_3 (c : Dev nD) (t : Fin cfg1.N) (d) : (dat1 V c).before 3 t d = iblk1 V c 3 t :=
  before1_3_of V (dat1 V c) (A_eq1 V c 3) (after1_3 V c) t d
/-- Input window 4 of region 1 holds its block at every point. -/
theorem before1_4 (c : Dev nD) (t : Fin cfg1.N) (d) : (dat1 V c).before 4 t d = iblk1 V c 4 t :=
  before1_4_of V (dat1 V c) (A_eq1 V c 4) (after1_4 V c) t d

/-- The output's contents carry through points that leave it idle (there are none). -/
theorem hcarry1_5 (c : Dev nD) : ∀ (t : Fin cfg1.N) (_ : t.val ≠ 0), cfg1.idle 5 (grid1.coords t) = true → cfg1.fresh 5 t.val = false →
    (dat1 V c).after 5 t = (dat1 V c).after 5 ⟨t.val - 1, by omega⟩ := by
  intro t _ hi _
  have hN : t.val < 32 := lt_of_lt_of_eq t.isLt (show cfg1.N = 32 from N_1)
  rw [after1_5, after1_5]
  by_cases h0 : t.val % 8 = 0
  · by_cases h1 : 1 ≤ t.val % 8
    · exfalso; omega
    · rw [liveAt1_5_A t ((hcond1_0 t).mpr h0) (fun h => h1 ((hcond1_1 t).mp h))] at hi
      exact absurd hi Bool.false_ne_true
  · by_cases h1 : 1 ≤ t.val % 8
    · rw [liveAt1_5_B t (fun h => h0 ((hcond1_0 t).mp h)) ((hcond1_1 t).mpr h1)] at hi
      exact absurd hi Bool.false_ne_true
    · exfalso; omega
/-- At a later key-value head the output buffer holds what the point before left. -/
theorem before1_5_B (c : Dev nD) (t : Fin cfg1.N) (h0 : ¬t.val % 8 = 0) (h1 : 1 ≤ t.val % 8) (d) :
    (dat1 V c).before 5 t d = (outsAt1 V c (t.val - 1) (Nat.lt_of_le_of_lt (Nat.sub_le _ _) t.isLt)) := by
  rw [Dat.before_out_traj _ 5 rfl (fun _ _ => rfl) (hcarry1_5 V c) t.val t rfl d,
    if_neg (by rw [notFresh1_5_B t (fun h => h0 ((hcond1_0 t).mp h)) ((hcond1_1 t).mpr h1)]; exact Bool.false_ne_true)]
  dsimp only [dat1]

/-- What region 1's body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What region 1's body returns at point `t`. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 800000 in
/-- Region 1's body at any grid point meets its specification. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  have hN : t.val < 32 := lt_of_lt_of_eq t.isLt (show cfg1.N = 32 from N_1)
  by_cases h0 : t.val % 8 = 0
  · by_cases h1 : 1 ≤ t.val % 8
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_A t ((hcond1_0 t).mpr h0) (fun h => h1 ((hcond1_1 t).mp h))], after1_5]
      rw [outsAt1_A V c t h0 h1]
      unfold out1_A_5
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _)
  · by_cases h1 : 1 ≤ t.val % 8
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1)], after1_5]
      rw [outsAt1_B V c t h0 h1]
      simp only [before1_5_B V c t h0 h1]
      unfold out1_B_5
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_B_5 c _ _ _ _ _ _ _ _ _ _ _ _ _ _ _ _ _ _ _ _ _)
    · exfalso; omega

/-- The body table's row for region 1 is the body. -/
theorem defs₀_row1 (t : Fin cfg1.N) :
    defs₀ (F := F) .tc cfg1.body (cfg1.bodyArgs t (cfg1.slots t)) = bodyAt1 t := by
  unfold defs₀; rw [Defs.onTc_tc]

/-- Region 1's body obligation, at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.KernelIdealRun.lean ====
module

public import proofs.«01_k».proof.Proof.KernelIdealQkv
public import proofs.«01_k».proof.Proof.KernelIdealAttn

/-! The whole program: buffer contents at every boundary between host stretches and regions, the two regions as
segments, and the run from launch to return with the result read at the end. -/

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8]

/-- Host stretch 0 allocates nothing. -/
theorem hostOps0_fresh : (hostOps0 : List (HloOp τ sig (Elt F))).Forall fun op => op.fresh = ∅ := by
  simp only [List.Forall]; repeat' constructor
/-- The references host stretch 0 writes, in order. -/
abbrev hostOps0_W : List (Ref sig .tc) := [main_v0, main_v1, main_v2, main_v3, main_v4, main_v5, main_cst, main_v6, main_v7, main_v8, main_v9, main_v10]
/-- Host stretch 0 writes no others. -/
theorem hostOps0_writes : (hostOps0 : List (HloOp τ sig (Elt F))).Forall fun op => op.writes ⊆ (hostOps0_W.map (Proc.devRef (τ := τ) .tc)).toFinset :=
  StableHlo.forall_writes_sub_of_map rfl
/-- Host stretch 0 writes no argument. -/
theorem hostOps0_args : ∀ a ∈ argRefs, a ∉ hostOps0_W := ListAll.forall_mem_of_all_decide (by decide +kernel)

/-- Host stretch 1 allocates nothing. -/
theorem hostOps1_fresh : (hostOps1 : List (HloOp τ sig (Elt F))).Forall fun op => op.fresh = ∅ := by
  simp only [List.Forall]; repeat' constructor
/-- The references host stretch 1 writes, in order. -/
abbrev hostOps1_W : List (Ref sig .tc) := [main_v12]
/-- Host stretch 1 writes no others. -/
theorem hostOps1_writes : (hostOps1 : List (HloOp τ sig (Elt F))).Forall fun op => op.writes ⊆ (hostOps1_W.map (Proc.devRef (τ := τ) .tc)).toFinset :=
  StableHlo.forall_writes_sub_of_map rfl
/-- Host stretch 1 writes no argument. -/
theorem hostOps1_args : ∀ a ∈ argRefs, a ∉ hostOps1_W := ListAll.forall_mem_of_all_decide (by decide +kernel)

/-- Host stretch 2 allocates nothing. -/
theorem hostOps2_fresh : (hostOps2 : List (HloOp τ sig (Elt F))).Forall fun op => op.fresh = ∅ := by
  simp only [List.Forall]; repeat' constructor
/-- The references host stretch 2 writes, in order. -/
abbrev hostOps2_W : List (Ref sig .tc) := [main_v14]
/-- Host stretch 2 writes no others. -/
theorem hostOps2_writes : (hostOps2 : List (HloOp τ sig (Elt F))).Forall fun op => op.writes ⊆ (hostOps2_W.map (Proc.devRef (τ := τ) .tc)).toFinset :=
  StableHlo.forall_writes_sub_of_map rfl
/-- Host stretch 2 writes no argument. -/
theorem hostOps2_args : ∀ a ∈ argRefs, a ∉ hostOps2_W := ListAll.forall_mem_of_all_decide (by decide +kernel)

/-- The buffers at launch. -/
abbrev W0 : Dev nD → Valuation τ sig (Elt F) := fun c b => (s₀ m ρ).mem ((c : Dev nD), b)
/-- At boundary 0 every argument is as launched. -/
theorem W0_args (c : Dev nD) : ∀ a ∈ argRefs, W0 m ρ c (Proc.devRef .tc a) = m ((c : Thread nD τ).loc a) := fun _ _ => rfl
/-- After the first host stretch: region 0's entry. -/
abbrev W1 : Dev nD → Valuation τ sig (Elt F) := fun c => StableHlo.after hostOps0 (W0 m ρ c)
/-- A reference the item before boundary 1 does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- At boundary 1 every argument is as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- `W1` at the core's own references. -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
/-- At boundary 2 each of the region's arrays holds what its pipeline leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A reference that is none of the region's arrays keeps its contents to boundary 2. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference the item before boundary 2 does not write keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- An argument among region 0's arrays is an input's. -/
theorem argsIn0 : ∀ a ∈ argRefs, ∀ w : Fin cfg0.W, Pipeline.arrRef spec0 w = a → (cfg0.win w).isOut = false :=
  ListAll.forall_mem_of_all_decide (by decide +kernel)
/-- At boundary 2 every argument is as launched. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- `W2` at the core's own references. -/
abbrev V2 : (c : Dev nD) → (b : Ref sig .tc) → Buf (Elt F) ((c : Thread nD τ).loc b) := fun c b => W2 m ρ c b
/-- At region 0's exit each of its arrays holds what the pipeline leaves. -/
theorem hF0 (c : Dev nD) (w : Fin cfg0.W) : (dat0 (V1 m ρ) c).arrAt w cfg0.N = V2 m ρ c (Pipeline.arrRef spec0 w) :=
  (W2_arr m ρ c w).symm
/-- Region 0 leaves every other buffer as it was. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
/-- A reference the item before boundary 3 does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- At boundary 3 every argument is as launched. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- `W3` at the core's own references. -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
/-- At boundary 4 each of the region's arrays holds what its pipeline leaves. -/
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
/-- A reference that is none of the region's arrays keeps its contents to boundary 4. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference the item before boundary 4 does not write keeps its contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- An argument among region 1's arrays is an input's. -/
theorem argsIn1 : ∀ a ∈ argRefs, ∀ w : Fin cfg1.W, Pipeline.arrRef spec1 w = a → (cfg1.win w).isOut = false :=
  ListAll.forall_mem_of_all_decide (by decide +kernel)
/-- At boundary 4 every argument is as launched. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- `W4` at the core's own references. -/
abbrev V4 : (c : Dev nD) → (b : Ref sig .tc) → Buf (Elt F) ((c : Thread nD τ).loc b) := fun c b => W4 m ρ c b
/-- At region 1's exit each of its arrays holds what the pipeline leaves. -/
theorem hF1 (c : Dev nD) (w : Fin cfg1.W) : (dat1 (V3 m ρ) c).arrAt w cfg1.N = V4 m ρ c (Pipeline.arrRef spec1 w) :=
  (W4_arr m ρ c w).symm
/-- Region 1 leaves every other buffer as it was. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the end of the program. -/
abbrev W5 : Dev nD → Valuation τ sig (Elt F) := fun c => StableHlo.after hostOps2 (W4 m ρ c)
/-- A reference the item before boundary 5 does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- At boundary 5 every argument is as launched. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-- Argument 0 ends as launched. -/
theorem W5_main_arg0 (c : Dev nD) : W5 m ρ c (Proc.devRef .tc main_arg0) = m ((c : Thread nD τ).loc main_arg0) :=
  W5_args m ρ c main_arg0 (by decide)
/-- Argument 1 ends as launched. -/
theorem W5_main_arg1 (c : Dev nD) : W5 m ρ c (Proc.devRef .tc main_arg1) = m ((c : Thread nD τ).loc main_arg1) :=
  W5_args m ρ c main_arg1 (by decide)
/-- Argument 2 ends as launched. -/
theorem W5_main_arg2 (c : Dev nD) : W5 m ρ c (Proc.devRef .tc main_arg2) = m ((c : Thread nD τ).loc main_arg2) :=
  W5_args m ρ c main_arg2 (by decide)
/-- Argument 3 ends as launched. -/
theorem W5_main_arg3 (c : Dev nD) : W5 m ρ c (Proc.devRef .tc main_arg3) = m ((c : Thread nD τ).loc main_arg3) :=
  W5_args m ρ c main_arg3 (by decide)
/-- Argument 4 ends as launched. -/
theorem W5_main_arg4 (c : Dev nD) : W5 m ρ c (Proc.devRef .tc main_arg4) = m ((c : Thread nD τ).loc main_arg4) :=
  W5_args m ρ c main_arg4 (by decide)
/-- Argument 5 ends as launched. -/
theorem W5_main_arg5 (c : Dev nD) : W5 m ρ c (Proc.devRef .tc main_arg5) = m ((c : Thread nD τ).loc main_arg5) :=
  W5_args m ρ c main_arg5 (by decide)
/-- Argument 6 ends as launched. -/
theorem W5_main_arg6 (c : Dev nD) : W5 m ρ c (Proc.devRef .tc main_arg6) = m ((c : Thread nD τ).loc main_arg6) :=
  W5_args m ρ c main_arg6 (by decide)
/-- Argument 7 ends as launched. -/
theorem W5_main_arg7 (c : Dev nD) : W5 m ρ c (Proc.devRef .tc main_arg7) = m ((c : Thread nD τ).loc main_arg7) :=
  W5_args m ρ c main_arg7 (by decide)
/-- Argument 8 ends as launched. -/
theorem W5_main_arg8 (c : Dev nD) : W5 m ρ c (Proc.devRef .tc main_arg8) = m ((c : Thread nD τ).loc main_arg8) :=
  W5_args m ρ c main_arg8 (by decide)

/-- No pipeline has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- No loop variants are assigned. -/
abbrev 𝒱₀ : Variants := Variants.none
/-- No core owes another anything. -/
abbrev L : GSem nD τ sig → Finset Unit := fun _ => ∅
/-- No level is assigned. -/
abbrev lv : GSem nD τ sig → Unit → ℕ := fun _ _ => 0
/-- What rides beside the buffers through every segment: the generator register, and that nothing is owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A reference outside every region's scope is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread state at the end. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 as a segment, entered at `W1` and left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment, entered at `W3` and left at `W4`. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of its segments. -/
theorem main_run (c : Dev nD) : main (F := F) c = Pipeline.Seg.run (segs m ρ) := (main_chain c).trans (by chain_rfl)

/-- Every semaphore of the core belongs to a region's scope. -/
theorem no_unscoped : ∀ sm : SemLoc sig, sm.isScoped .tc = true := by decide

set_option backward.isDefEq.respectTransparency.types false in
/-- Every weakly fair execution ends, with every argument as launched, the result at the last boundary's contents and
    every semaphore at zero. -/
theorem runs_to : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v14) = W5 m ρ c (Proc.devRef .tc main_v14))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       h c _ (mem_uc main_v14 (by decide))⟩), funext fun g => hz g (.inr (no_unscoped g.2))⟩)

end Cert.KernelIdeal.Whole

end
-- ==== Proof.Frames.lean ====
module

public import proofs.«01_k».proof.Defs
public import proofs.«01_k».proof.Proof.KernelRun
public import proofs.«01_k».proof.Proof.KernelIdealRun
public import proofs.«01_k».proof.Proof.Gen.ReferenceIdeal.Run

/-! The three frames: each program ends, with its arguments unchanged and every semaphore at zero. And the one named
constant of the kernel, the scale, is the number the idealized kernel reads in its place. -/

@[expose] public section

noncomputable section

namespace Cert.Proof

open Idealize.ShloMosaic Idealize.ShloMosaic.TcCoe Idealize.SL.Sem

/-- The kernel as printed ends with its arguments unchanged. -/
theorem kernel_frame : Cert.quiescent_Kernel := fun m ρ _ =>
  (θ_run Cert.Kernel.defs _ _).mono
    (fun _ h => ⟨fun c => let ⟨h0, h1, h2, h3, h4, h5, h6, h7, h8, _⟩ := h.1 c; ⟨h0, h1, h2, h3, h4, h5, h6, h7, h8⟩, h.2⟩)
    (Cert.Kernel.Whole.runs_to (F := Bits) m ρ)

/-- The idealized kernel ends with its arguments unchanged. -/
theorem kernelIdeal_frame : Cert.quiescent_KernelIdeal := fun m ρ _ =>
  (θ_run Cert.KernelIdeal.defs _ _).mono
    (fun _ h => ⟨fun c => let ⟨h0, h1, h2, h3, h4, h5, h6, h7, h8, _⟩ := h.1 c; ⟨h0, h1, h2, h3, h4, h5, h6, h7, h8⟩, h.2⟩)
    (Cert.KernelIdeal.Whole.runs_to (F := Ideal) m ρ)

/-- The idealized reference ends with its arguments unchanged. -/
theorem referenceIdeal_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealized kernel reads 1/√128 where the kernel's literal rounds it. -/
theorem scale_preserved : Cert.preserves_Kernel_KernelIdeal :=
  IdealRules.named_const.statement _ _ _ _ _ rfl

end Cert.Proof

end
-- ==== Proof.Spec.lean ====
module

public import Idealize.ShloMosaic.PureOps.Ideal.Laws
public import Idealize.ShloMosaic.Lib.Pointwise

/-! The mathematics of the layer over the extended reals, on plain functions of natural numbers: an array is the
function that gives its element at each pair of coordinates. Both programs are shown to compute these functions. -/

@[expose] public section

noncomputable section

namespace Cert.Spec

open Idealize.ShloMosaic

/-- A vector of the programs as a function on the natural numbers, zero beyond its end. -/
def rd1 {m : ℕ} (x : (⟨1, ![m]⟩ : Shape).Idx → EReal) (i : ℕ) : EReal :=
  if h : i < m then x (ix1 ⟨i, h⟩) else 0

/-- A matrix of the programs as a function on pairs of natural numbers, zero outside. -/
def rd2 {m n : ℕ} (x : (⟨2, ![m, n]⟩ : Shape).Idx → EReal) (i j : ℕ) : EReal :=
  if h : i < m ∧ j < n then x (ix2 ⟨i, h.1⟩ ⟨j, h.2⟩) else 0

/-- Layer `0` of an array of one layer, as a function on pairs of natural numbers. -/
def rd3 {l m n : ℕ} (x : (⟨3, ![l + 1, m, n]⟩ : Shape).Idx → EReal) (i j : ℕ) : EReal :=
  if h : i < m ∧ j < n then x (ix3 0 ⟨i, h.1⟩ ⟨j, h.2⟩) else 0

/-- A vector's element, read through `rd1`. -/
theorem rd1_eq {m : ℕ} (x : (⟨1, ![m]⟩ : Shape).Idx → EReal) (i : Fin m) : x (ix1 i) = rd1 x i.val := by
  simp [rd1, i.isLt]

/-- A matrix's element, read through `rd2`. -/
theorem rd2_eq {m n : ℕ} (x : (⟨2, ![m, n]⟩ : Shape).Idx → EReal) (i : Fin m) (j : Fin n) :
    x (ix2 i j) = rd2 x i.val j.val := by
  simp [rd2, i.isLt, j.isLt]

/-- An element of layer `0`, read through `rd3`. -/
theorem rd3_eq {l m n : ℕ} (x : (⟨3, ![l + 1, m, n]⟩ : Shape).Idx → EReal) (i : Fin m) (j : Fin n) :
    x (ix3 0 i j) = rd3 x i.val j.val := by
  simp [rd3, i.isLt, j.isLt]

/-- One element of the product of the hidden states and a weight matrix. -/
def proj (x w : ℕ → ℕ → EReal) (r c : ℕ) : EReal := ∑ k : Fin 2048, x r k * w k c

/-- The reciprocal root of the mean square of a head's 128 elements, the epsilon added. -/
def invRms (y : ℕ → EReal) : EReal :=
  Ideal.rsqrt (Ideal.div (∑ k : Fin 128, y k * y k) (Ideal.ofBits .f32 0x43000000#32) + Ideal.ofBits .f32 0x358637BD#32)

/-- A head's elements normalised and weighted. -/
def normed (y w : ℕ → EReal) (d : ℕ) : EReal := y d * invRms y * w d

/-- A head's elements rotated: each times its cosine, plus its partner in the other half (negated in the first half)
times its sine. -/
def rotated (z c s : ℕ → EReal) (d : ℕ) : EReal :=
  z d * c d + (if d < 64 then -z (64 + d) else z (d - 64)) * s d

/-- The root mean square reads the head's 128 elements alone. -/
theorem invRms_congr {y y' : ℕ → EReal} (h : ∀ d < 128, y d = y' d) : invRms y = invRms y' := by
  have : ∀ k : Fin 128, y k = y' k := fun k => h k k.isLt
  simp only [invRms, this]

/-- So does the normalised head. -/
theorem normed_congr {y y' w : ℕ → EReal} (h : ∀ d < 128, y d = y' d) {d : ℕ} (hd : d < 128) :
    normed y w d = normed y' w d := by
  rw [normed, normed, h d hd, invRms_congr h]

/-- And the rotated one. -/
theorem rotated_congr {z z' c s : ℕ → EReal} {d : ℕ} (hd : d < 128) (h : ∀ d < 128, z d = z' d) :
    rotated z c s d = rotated z' c s d := by
  rw [rotated, rotated, h d hd]
  split_ifs with h1
  · rw [h (64 + d) (by omega)]
  · rw [h (d - 64) (by omega)]

/-- The three projections side by side, 128 columns a head: 16 query heads and 8 key heads, normalised and rotated, then
8 value heads as they are. `w` is the three weight matrices side by side, `nw h` the norm weight of head `h`. -/
def qkv (x w nw cs sn : ℕ → ℕ → EReal) (r c : ℕ) : EReal :=
  if c < 3072 then
    rotated (normed (fun d => proj x w r (c / 128 * 128 + d)) (nw (c / 128))) (cs r) (sn r) (c % 128)
  else proj x w r c

/-- The scale `1/√128`. -/
def scale : EReal := (((Real.sqrt 128)⁻¹ : ℝ) : EReal)

/-- The score of query row `r` and key row `c` in query head `h`, from the side-by-side projections `a`. -/
def score (a : ℕ → ℕ → EReal) (h r c : ℕ) : EReal :=
  (∑ d : Fin 128, a r (h * 128 + d) * a c (2048 + h / 2 * 128 + d)) * scale

/-- The weight of key row `c` as the kernel has it: the exponential of the score less twelve, nothing above the diagonal. -/
def weight (a : ℕ → ℕ → EReal) (h r c : ℕ) : EReal :=
  if c ≤ r then Ideal.exp (score a h r c - Ideal.ofBits .f32 0x41400000#32) else 0

/-- Attention as the kernel has it: the weighted sum of the values over the sum of the weights. -/
def attnK (a : ℕ → ℕ → EReal) (h r d : ℕ) : EReal :=
  Ideal.div (∑ c : Fin 2048, weight a h r c * a c (3072 + h / 2 * 128 + d)) (∑ c : Fin 2048, weight a h r c)

/-- The result as the kernel has it: the heads two at a time, each pair times its rows of the output weights. -/
def outK (a wo : ℕ → ℕ → EReal) (r n : ℕ) : EReal :=
  ∑ g : Fin 8, ∑ e : Fin 256, attnK a (2 * g + e / 128) r (e % 128) * wo (g * 256 + e) n

/-- The masked score of the plain formula. -/
def masked (a : ℕ → ℕ → EReal) (h r c : ℕ) : EReal := if c ≤ r then score a h r c else ⊥

/-- The largest masked score of a row. -/
def rowMax (a : ℕ → ℕ → EReal) (h r : ℕ) : EReal :=
  max ⊥ ((Finset.univ : Finset (Fin 2048)).fold max ⊥ fun c : Fin 2048 => masked a h r c.val)

/-- The exponential of a masked score less the row's largest. -/
def expo (a : ℕ → ℕ → EReal) (h r c : ℕ) : EReal := Ideal.exp (masked a h r c - rowMax a h r)

/-- Attention by the plain formula: the softmax of the masked scores times the values. -/
def attnR (a : ℕ → ℕ → EReal) (h r d : ℕ) : EReal :=
  ∑ c : Fin 2048, Ideal.div (expo a h r c) (∑ c' : Fin 2048, expo a h r c') * a c (3072 + h / 2 * 128 + d)

/-- The result by the plain formula. -/
def outR (a wo : ℕ → ℕ → EReal) (r n : ℕ) : EReal :=
  ∑ k : Fin 2048, attnR a (k / 128) r (k % 128) * wo k n

/-- The three weight matrices side by side. -/
def sideBySide (wq wk wv : ℕ → ℕ → EReal) (k c : ℕ) : EReal :=
  if c < 2048 then wq k c else if c < 3072 then wk k (c - 2048) else wv k (c - 3072)

/-- The norm weights head by head: the query's for heads 0 to 15, the key's for 16 to 23, ones for the values'. -/
def headWeights (qw kw : ℕ → EReal) (h d : ℕ) : EReal := if h < 16 then qw d else if h < 24 then kw d else 1

end Cert.Spec

end
-- ==== Proof.KernelIdealQkvValue.lean ====
module

public import proofs.«01_k».proof.Proof.KernelIdealQkv
public import proofs.«01_k».proof.Proof.Spec
public import Idealize.ShloMosaic.Lib.Pipeline.ValueKit
public import Idealize.ShloMosaic.Lib.Pointwise

/-! What region 0 leaves in its array over the extended reals: the side-by-side projections, the query and key heads
normalised and rotated, the value heads plain. First one block's payload at an index, then the array. -/

@[expose] public section

set_option maxRecDepth 16384

noncomputable section

namespace Cert.KernelIdeal.Whole

open Cert.KernelIdeal.Gen Cert.Spec
open Idealize.ShloMosaic Idealize.ShloMosaic.TcCoe

section Block

variable (y : FVec Ideal S2048x512 .f32) (w : Vec Ideal S1x1x512 .f32) (cs sn : Vec Ideal S2048x128 .f32)

/-- The norm weights of a block, read by column. -/
theorem weight_eq (j : Fin 512) : w (ix3 0 0 j) = rd3 (l := 0) w 0 j.val := rd3_eq (l := 0) w 0 j

/-- The first head of a block. -/
theorem head0 (r : Fin 2048) (d : Fin 128) :
    k0_pay6 y cs sn (View.ld w (Rect.unit ![0, 0, 0] ![1, 1, 128] inb_S1x1x512_S1x1x128_0_0_0)) (ix2 r d)
      = rotated (normed (rd2 y r) (rd3 (l := 0) w 0)) (rd2 cs r) (rd2 sn r) d := by
  pointwise [k0_pay6, k0_pay4, k0_pay5]
  simp only [rd2_eq y, rd2_eq cs, rd2_eq sn, weight_eq w, rotated, normed, invRms, dite_eq_ite, zero_sub]

/-- The second head of a block. -/
theorem head1 (r : Fin 2048) (d : Fin 128) :
    k0_pay9 (k0_pay4 cs) (k0_pay5 sn) (k0_pay7 y)
        (k0_pay8 (View.ld w (Rect.unit ![0, 0, 128] ![1, 1, 128] inb_S1x1x512_S1x1x128_0_0_128))) (ix2 r d)
      = rotated (normed (fun d => rd2 y r (128 + d)) (fun d => rd3 (l := 0) w 0 (128 + d))) (rd2 cs r) (rd2 sn r) d := by
  pointwise [k0_pay9, k0_pay4, k0_pay5, k0_pay7, k0_pay8]
  simp only [rd2_eq y, rd2_eq cs, rd2_eq sn, weight_eq w, rotated, normed, invRms, dite_eq_ite, zero_sub]

/-- The third head of a block. -/
theorem head2 (r : Fin 2048) (d : Fin 128) :
    k0_pay10 y (k0_pay4 cs) (k0_pay5 sn)
        (View.ld w (Rect.unit ![0, 0, 256] ![1, 1, 128] inb_S1x1x512_S1x1x128_0_0_256)) (ix2 r d)
      = rotated (normed (fun d => rd2 y r (256 + d)) (fun d => rd3 (l := 0) w 0 (256 + d))) (rd2 cs r) (rd2 sn r) d := by
  pointwise [k0_pay10, k0_pay4, k0_pay5]
  simp only [rd2_eq y, rd2_eq cs, rd2_eq sn, weight_eq w, rotated, normed, invRms, dite_eq_ite, zero_sub]

/-- A query or key block's payload: four heads side by side, each normalised and rotated. -/
theorem heads (r : Fin 2048) (q : Fin 512) :
    k0_pay2 (k0_pay4 cs) (k0_pay5 sn)
        (k0_pay6 y cs sn (View.ld w (Rect.unit ![0, 0, 0] ![1, 1, 128] inb_S1x1x512_S1x1x128_0_0_0)))
        (k0_pay9 (k0_pay4 cs) (k0_pay5 sn) (k0_pay7 y)
          (k0_pay8 (View.ld w (Rect.unit ![0, 0, 128] ![1, 1, 128] inb_S1x1x512_S1x1x128_0_0_128))))
        (k0_pay10 y (k0_pay4 cs) (k0_pay5 sn)
          (View.ld w (Rect.unit ![0, 0, 256] ![1, 1, 128] inb_S1x1x512_S1x1x128_0_0_256)))
        (k0_pay11 y) (k0_pay12 (View.ld w (Rect.unit ![0, 0, 384] ![1, 1, 128] inb_S1x1x512_S1x1x128_0_0_384))) (ix2 r q)
      = rotated (normed (fun d => rd2 y r (q / 128 * 128 + d)) (fun d => rd3 (l := 0) w 0 (q / 128 * 128 + d)))
          (rd2 cs r) (rd2 sn r) (q % 128) := by
  have hq := q.isLt
  generalize hA : k0_pay6 y cs sn (View.ld w (Rect.unit ![0, 0, 0] ![1, 1, 128] inb_S1x1x512_S1x1x128_0_0_0)) = A
  generalize hB : k0_pay9 (k0_pay4 cs) (k0_pay5 sn) (k0_pay7 y)
          (k0_pay8 (View.ld w (Rect.unit ![0, 0, 128] ![1, 1, 128] inb_S1x1x512_S1x1x128_0_0_128))) = B
  generalize hC : k0_pay10 y (k0_pay4 cs) (k0_pay5 sn)
          (View.ld w (Rect.unit ![0, 0, 256] ![1, 1, 128] inb_S1x1x512_S1x1x128_0_0_256)) = C
  pointwise [k0_pay2, k0_pay4, k0_pay5, k0_pay11, k0_pay12]
  subst hA hB hC
  simp only [head0, head1, head2, rd2_eq y, rd2_eq cs, rd2_eq sn, weight_eq w, dite_eq_ite, zero_sub]
  split_ifs with h1 h2 h3 h4
  · have e : q.val / 128 = 0 := by omega
    have e' : q.val % 128 = q.val := by omega
    simp only [e, e', zero_mul, zero_add]
  · have e : q.val / 128 = 1 := by omega
    have e' : q.val % 128 = q.val - 128 := by omega
    simp only [e, e', one_mul]
  · have e : q.val / 128 = 2 := by omega
    have e' : q.val % 128 = q.val - 128 - 128 := by omega
    simp only [e, e', Nat.reduceMul]
  · have e : q.val / 128 = 3 := by omega
    have e' : q.val % 128 = q.val - 128 - 128 - 128 := by omega
    simp only [e, e', Nat.reduceMul, rotated, normed, invRms, if_pos h4]
  · have e : q.val / 128 = 3 := by omega
    have e' : q.val % 128 = q.val - 128 - 128 - 128 := by omega
    simp only [e, e', Nat.reduceMul, rotated, normed, invRms, if_neg h4]

/-- The product of the hidden states and one block of the weights. -/
theorem product (x : Vec Ideal S2048x2048 .bf16) (v : Vec Ideal S2048x512 .bf16) (r : Fin 2048) (q : Fin 512) :
    k0_pay1 x v (ix2 r q) = proj (rd2 x) (rd2 v) r q := by
  pointwise [k0_pay1]
  simp only [rd2_eq x, rd2_eq v, proj]

/-- A value block's payload is the product. -/
theorem plain (x : Vec Ideal S2048x2048 .bf16) (v : Vec Ideal S2048x512 .bf16) (r : Fin 2048) (q : Fin 512) :
    k0_pay3 x v (ix2 r q) = proj (rd2 x) (rd2 v) r q := by
  pointwise [k0_pay3, k0_pay1]
  simp only [rd2_eq x, rd2_eq v, proj]

end Block

variable (V : (c : Dev nD) → (b : Ref sig .tc) → Buf (Elt Ideal) ((c : Thread nD τ).loc b))

/-- The norm weights of every head, out of the array that holds four heads a row. -/
def weightRows (x : Vec Ideal S8x1x512 .f32) (h d : ℕ) : EReal :=
  if hh : h / 4 < 8 ∧ h % 4 * 128 + d < 512 then x (ix3 ⟨h / 4, hh.1⟩ 0 ⟨h % 4 * 128 + d, hh.2⟩) else 0

/-- What region 0's array ends at, from its input arrays. -/
def projections (c : Dev nD) : ℕ → ℕ → EReal :=
  qkv (rd2 (V c main_v1 : Vec Ideal S2048x2048 .bf16)) (rd2 (V c main_v10 : Vec Ideal S2048x4096 .bf16))
    (weightRows (V c main_v8)) (rd2 (V c main_v2 : Vec Ideal S2048x128 .f32)) (rd2 (V c main_v3 : Vec Ideal S2048x128 .f32))

/-- The windows' block indices at each grid point. -/
theorem index0 : ∀ t : Fin grid0.N, win0_0.index t = ![0, 0] ∧ win0_1.index t = ![0, t.val] ∧ win0_2.index t = ![t.val, 0, 0]
    ∧ win0_3.index t = ![0, 0] ∧ win0_4.index t = ![0, 0] ∧ win0_5.index t = ![0, t.val] := by decide +kernel

/-- The hidden states are whole at every point. -/
theorem block0_0 (c : Dev nD) (t : Fin cfg0.N) : (iblk0 V c 0 t : Vec Ideal S2048x2048 .bf16) = V c main_v1 := by
  funext y
  idx_vars y
  blk_ext [iblk0, index0 t]

/-- The weights' block is its 512 columns. -/
theorem block0_1 (c : Dev nD) (t : Fin cfg0.N) (k : Fin 2048) (q : Fin 512) :
    rd2 (iblk0 V c 1 t : Vec Ideal S2048x512 .bf16) k q = rd2 (V c main_v10 : Vec Ideal S2048x4096 .bf16) k (512 * t.val + q) := by
  have ht : t.val < 8 := t.isLt
  rw [← rd2_eq (iblk0 V c 1 t : Vec Ideal S2048x512 .bf16) k q]
  refine Eq.trans ?_ (rd2_eq (V c main_v10 : Vec Ideal S2048x4096 .bf16) k ⟨512 * t.val + q, by omega⟩)
  blk_ext [iblk0, index0 t]

/-- The norm weights' block is its row. -/
theorem block0_2 (c : Dev nD) (t : Fin cfg0.N) (q : Fin 512) :
    (iblk0 V c 2 t : Vec Ideal S1x1x512 .f32) (ix3 0 0 q) = (V c main_v8 : Vec Ideal S8x1x512 .f32) (ix3 ⟨t.val, t.isLt⟩ 0 q) := by
  blk_ext [iblk0, index0 t]

/-- The cosines are whole at every point. -/
theorem block0_3 (c : Dev nD) (t : Fin cfg0.N) : (iblk0 V c 3 t : Vec Ideal S2048x128 .f32) = V c main_v2 := by
  funext y
  idx_vars y
  blk_ext [iblk0, index0 t]

/-- So are the sines. -/
theorem block0_4 (c : Dev nD) (t : Fin cfg0.N) : (iblk0 V c 4 t : Vec Ideal S2048x128 .f32) = V c main_v3 := by
  funext y
  idx_vars y
  blk_ext [iblk0, index0 t]

/-- One element of a block's product is that of the whole product. -/
theorem product_block (c : Dev nD) (t : Fin cfg0.N) (r : ℕ) (q : Fin 512) :
    proj (rd2 (iblk0 V c 0 t : Vec Ideal S2048x2048 .bf16)) (rd2 (iblk0 V c 1 t : Vec Ideal S2048x512 .bf16)) r q
      = proj (rd2 (V c main_v1 : Vec Ideal S2048x2048 .bf16)) (rd2 (V c main_v10 : Vec Ideal S2048x4096 .bf16)) r (512 * t.val + q) := by
  simp only [proj, block0_0, block0_1]

/-- What the body leaves in the output's staging buffer at point `t`. -/
theorem staged0 (c : Dev nD) (t : Fin cfg0.N) (r : Fin 2048) (q : Fin 512) :
    outsAt0 V c t.val t.isLt (ix2 r q) = projections V c r (512 * t.val + q) := by
  have ht : t.val < 8 := t.isLt
  have hq := q.isLt
  by_cases h : t.val < 6
  · rw [outsAt0_A V c t h (by omega)]
    frame_out
    refine (heads _ _ _ _ r q).trans ?_
    rw [projections, qkv, if_pos (by omega), block0_3, block0_4]
    have e : (512 * t.val + q.val) % 128 = q.val % 128 := by omega
    rw [e]
    refine rotated_congr (by omega) fun d hd => ?_
    have hn : rd3 (l := 0) (iblk0 V c 2 t : Vec Ideal S1x1x512 .f32) 0 (q.val / 128 * 128 + d)
        = weightRows (V c main_v8) ((512 * t.val + q.val) / 128) d := by
      refine (weight_eq (iblk0 V c 2 t : Vec Ideal S1x1x512 .f32) ⟨q.val / 128 * 128 + d, by omega⟩).symm.trans ?_
      have e1 : (512 * t.val + q.val) / 128 / 4 = t.val := by omega
      have e2 : (512 * t.val + q.val) / 128 % 4 = q.val / 128 := by omega
      rw [block0_2, weightRows, dif_pos (by omega)]
      simp only [e1, e2]
    have hp : ∀ d < 128, rd2 (k0_pay1 (iblk0 V c 0 t) (iblk0 V c 1 t)) r (q.val / 128 * 128 + d)
        = proj (rd2 (V c main_v1 : Vec Ideal S2048x2048 .bf16)) (rd2 (V c main_v10 : Vec Ideal S2048x4096 .bf16)) r
            ((512 * t.val + q.val) / 128 * 128 + d) := by
      intro d hd
      refine (rd2_eq (k0_pay1 (iblk0 V c 0 t) (iblk0 V c 1 t)) r ⟨q.val / 128 * 128 + d, by omega⟩).symm.trans ?_
      rw [product, product_block]
      congr 1
      simp only
      omega
    rw [normed, normed, hn, invRms_congr hp, hp d hd]
  · rw [outsAt0_B V c t h (by omega)]
    frame_out
    rw [plain, product_block, projections, qkv, if_neg (by omega)]

/-- Region 0's array after its pipeline. -/
theorem array0 (c : Dev nD) (r : Fin 2048) (q : Fin 4096) :
    ((dat0 V c).arrAt 5 cfg0.N : Vec Ideal S2048x4096 .bf16) (ix2 r q) = projections V c r q := by
  have key : (dat0 V c).arrAt 5 cfg0.N = fun i : S2048x4096.Idx => projections V c (i 0).val (i 1).val := by
    refine (dat0 V c).arrAt_eq_of_covers 5 _ (by decide +kernel) fun t hf y => ?_
    blk_simp
    rw [after0_5]
    obtain ⟨r, q, rfl⟩ : ∃ (r : Fin 2048) (q : Fin 512), y = ix2 r q := ⟨y 0, y 1, by funext a; fin_cases a <;> rfl⟩
    refine (staged0 V c t r q).trans ?_
    blk_simp [index0 t]
    rw [Nat.mul_comm 512]
  exact congrFun key (ix2 r q)

end Cert.KernelIdeal.Whole

end
-- ==== Proof.KernelIdealAttnBlock.lean ====
module

public import proofs.«01_k».proof.Proof.KernelIdealAttn
public import proofs.«01_k».proof.Proof.Spec
public import Idealize.ShloMosaic.Lib.Pipeline.ValueKit
public import Idealize.ShloMosaic.Lib.Pointwise

/-! Region 1's body over the extended reals, at a row block and a pair of heads: the two heads' queries stacked into
1024 rows, the loop over the key blocks before the diagonal as sums over the keys passed, the diagonal block under its
mask, and the block of the output projection. -/

@[expose] public section

set_option maxRecDepth 16384

noncomputable section

namespace Cert.KernelIdeal.Whole

open Cert.KernelIdeal.Gen Cert.Spec
open Idealize.ShloMosaic Idealize.ShloMosaic.TcCoe

/-- The named scale is the reciprocal of the root of 128. -/
theorem named_scale : Named.named (F := Ideal) Cert.KernelIdeal.κ "scale" (φ := .f32) 0x3DB504F3#32 = scale :=
  IdealRules.named_const.ideal_named_scalar _ _ _ _ rfl

variable (q0 q1 kb vb : Vec Ideal S512x128 .bf16) (ks vs : Vec Ideal S2048x128 .bf16) (wo : Vec Ideal S2048x2048 .bf16)

/-- The stacked queries: the first head's 512 rows over the second head's. -/
def stacked (ρ x : ℕ) : EReal := if ρ < 512 then rd2 q0 ρ x else rd2 q1 (ρ - 512) x

/-- The exponential of one stacked query row against one key row. -/
def power (k : ℕ → ℕ → EReal) (ρ c : ℕ) : EReal :=
  Ideal.exp ((∑ x : Fin 128, stacked q0 q1 ρ x * k c x) * scale - Ideal.ofBits .f32 0x41400000#32)

/-- The exponentials of one key block. -/
theorem power_block (ρ : Fin 1024) (k : Fin 512) : k1_pay6 q0 q1 kb (ix2 ρ k) = power q0 q1 (rd2 kb) ρ k := by
  pointwise [k1_pay6, k1_pay3]
  simp only [named_scale, rd2_eq q0, rd2_eq q1, rd2_eq kb, dite_eq_ite, power, stacked]

/-- One trip's sum of exponentials. -/
theorem trip_sum (l : FVec Ideal S1024x1 .f32) (ρ : Fin 1024) :
    k1_pay7 q0 q1 l kb (ix2 ρ 0) = l (ix2 ρ 0) + ∑ k : Fin 512, power q0 q1 (rd2 kb) ρ k := by
  pointwise [k1_pay7]
  simp only [power_block]

/-- One trip's sum of exponentials times values. -/
theorem trip_acc (a : FVec Ideal S1024x128 .f32) (ρ : Fin 1024) (d : Fin 128) :
    k1_pay8 q0 q1 a kb vb (ix2 ρ d) = a (ix2 ρ d) + ∑ k : Fin 512, power q0 q1 (rd2 kb) ρ k * rd2 vb k d := by
  pointwise [k1_pay8]
  simp only [power_block, rd2_eq vb]

/-- The diagonal mask's bit: a column not past the row, the row counted within its head. -/
theorem diagonal_bit (ρ : Fin 1024) (k : Fin 512) :
    IntOp.cmpi .sle (BitVec.ofNat 32 k.val)
        (Scalar.select (IntOp.cmpi .sge (BitVec.ofNat 32 ρ.val) 512#32) (IntOp.subi (BitVec.ofNat 32 ρ.val) 512#32)
          (BitVec.ofNat 32 ρ.val))
      = if k.val ≤ ρ.val % 512 then 1#1 else 0#1 := by
  have hρ := ρ.isLt
  have hk := k.isLt
  have toInt (n : ℕ) (hn : n < 2048) : (BitVec.ofNat 32 n).toInt = n := by
    rw [BitVec.toInt_eq_toNat_of_lt (by rw [BitVec.toNat_ofNat]; omega), BitVec.toNat_ofNat]
    omega
  have hsel : Scalar.select (IntOp.cmpi .sge (BitVec.ofNat 32 ρ.val) 512#32) (IntOp.subi (BitVec.ofNat 32 ρ.val) 512#32)
      (BitVec.ofNat 32 ρ.val) = BitVec.ofNat 32 (ρ.val % 512) := by
    have hc : IntOp.cmpi .sge (BitVec.ofNat 32 ρ.val) 512#32 = if 512 ≤ ρ.val then 1#1 else 0#1 := by
      simp only [IntOp.cmpi, BitVec.sle_eq_decide, toInt ρ.val (by omega), toInt 512 (by omega)]
      by_cases h : 512 ≤ ρ.val <;> simp [h] <;> omega
    rw [hc]
    by_cases h : 512 ≤ ρ.val
    · rw [if_pos h]
      change BitVec.ofNat 32 ρ.val - 512#32 = _
      apply BitVec.eq_of_toNat_eq
      simp only [BitVec.toNat_sub, BitVec.toNat_ofNat]
      omega
    · simp only [h, if_false, Scalar.select]
      rw [Nat.mod_eq_of_lt (by omega)]
      rfl
  rw [hsel]
  simp only [IntOp.cmpi, BitVec.sle_eq_decide, toInt k.val (by omega), toInt (ρ.val % 512) (by omega), Nat.cast_le]
  by_cases h : k.val ≤ ρ.val % 512 <;> simp [h]

/-- The diagonal block's exponentials, masked. -/
theorem diagonal (ρ : Fin 1024) (k : Fin 512) :
    k1_pay13 q0 q1 kb (ix2 ρ k) = if k.val ≤ ρ.val % 512 then power q0 q1 (rd2 kb) ρ k else 0 := by
  pointwise [k1_pay13, k1_pay3]
  rw [diagonal_bit]
  simp only [named_scale, rd2_eq q0, rd2_eq q1, rd2_eq kb, dite_eq_ite, power, stacked]
  by_cases h : k.val ≤ ρ.val % 512 <;> simp [h, Scalar.select]

/-- The output block's payload: each head's quotient against its 128 rows of the projection. -/
theorem projected (a : FVec Ideal S1024x128 .f32) (l : FVec Ideal S1024x1 .f32) (v : FVec Ideal S512x128 .bf16)
    (p : FVec Ideal S1024x512 .f32) (w : Vec Ideal S256x2048 .bf16) (r : Fin 512) (n : Fin 2048) :
    k1_pay1 a l v p w (ix2 r n)
      = ∑ e : Fin 256, Ideal.div
          (rd2 a (e / 128 * 512 + r) (e % 128) + ∑ k : Fin 512, rd2 p (e / 128 * 512 + r) k * rd2 v k (e % 128))
          (rd2 l (e / 128 * 512 + r) 0 + ∑ k : Fin 512, rd2 p (e / 128 * 512 + r) k) * rd2 w e n := by
  have e0 : ∀ ρ : Fin 1024, l (ix2 ρ 0) = rd2 l ρ 0 := fun ρ => rd2_eq l ρ 0
  pointwise [k1_pay1]
  simp only [e0, rd2_eq a, rd2_eq v, rd2_eq p, rd2_eq w]
  refine Eq.trans ?_ (Fin.sum_univ_add (a := 128) (b := 128) _).symm
  refine congrArg₂ (· + ·) (Finset.sum_congr rfl fun x _ => ?_) (Finset.sum_congr rfl fun x _ => ?_)
  · have hx := x.isLt
    have h1 : x.val / 128 = 0 := by omega
    have h2 : x.val % 128 = x.val := by omega
    simp only [Fin.val_castAdd, h1, h2, zero_mul, zero_add]
  · have hx := x.isLt
    have h1 : (128 + x.val) / 128 = 1 := by omega
    have h2 : (128 + x.val) % 128 = x.val := by omega
    simp only [Fin.val_natAdd, h1, h2, one_mul]

/-- The accumulating payload adds what the output block held. -/
theorem added (a : FVec Ideal S1024x128 .f32) (l : FVec Ideal S1024x1 .f32) (v : FVec Ideal S512x128 .bf16)
    (p : FVec Ideal S1024x512 .f32) (w : Vec Ideal S256x2048 .bf16) (o : Vec Ideal S512x2048 .f32) (r : Fin 512) (n : Fin 2048) :
    k1_pay2 a l v p w o (ix2 r n) = o (ix2 r n) + k1_pay1 a l v p w (ix2 r n) := by
  pointwise [k1_pay2]

/-- A key block before the diagonal, read off the keys. -/
theorem key_block (i : grid1.Coords) (t : Fin (k1_t1_loop i).trips) (k : Fin 512) (x : Fin 128) :
    View.ld ks (Rect.unit (k1_off1 i t) S512x128.size (k1_off1_inb i t)) (ix2 k x) = rd2 ks (512 * t.val + k) x := by
  pointwise
  rw [rd2_eq ks]
  simp only [k1_off1_eq, Matrix.cons_val_zero, Matrix.cons_val_one, zero_add]

/-- The diagonal key block. -/
theorem key_diagonal (i : grid1.Coords) (k : Fin 512) (x : Fin 128) :
    View.ld ks (Rect.unit (k1_off3 i) S512x128.size (k1_off3_inb i)) (ix2 k x) = rd2 ks (512 * (i 0).val + k) x := by
  pointwise
  rw [rd2_eq ks]
  simp only [k1_off3_eq, Matrix.cons_val_zero, Matrix.cons_val_one, zero_add]

/-- The two heads' rows of the output projection. -/
theorem wo_rows (i : grid1.Coords) (e : Fin 256) (n : Fin 2048) :
    View.ld wo (Rect.unit (k1_off4 i) S256x2048.size (k1_off4_inb i)) (ix2 e n) = rd2 wo (256 * (i 1).val + e) n := by
  pointwise
  rw [rd2_eq wo]
  simp only [k1_off4_eq, Matrix.cons_val_zero, Matrix.cons_val_one, zero_add]

section Loop

variable (c : Dev nD) (i : grid1.Coords) (m0 m1 : Memref sig .tc .vmem S512x128 .bf16) (h0 : m0.IsWhole) (h1 : m1.IsWhole)
  (m2 m3 : Memref sig .tc .vmem S2048x128 .bf16) (h2 : m2.IsWhole) (h3 : m3.IsWhole)
  (m4 : Memref sig .tc .vmem S2048x2048 .bf16) (h4 : m4.IsWhole) (m5 : Memref sig .tc .vmem S512x2048 .f32) (h5 : m5.IsWhole)

/-- One trip of the loop, as its payloads over the key and value blocks it loads. -/
theorem trip_eq (t : Fin (k1_t1_loop i).trips) (s : FVec Ideal S1024x128 .f32 × FVec Ideal S1024x1 .f32) :
    tripR_k1_t1 (F := Ideal) Variants.none c none i m0 h0 m1 h1 m2 h2 m3 h3 m4 h4 m5 h5 q0 q1 (h2.unread ks) (h3.unread vs) t s
      = (k1_pay8 q0 q1 s.1 (View.ld ks (Rect.unit (k1_off1 i t) S512x128.size (k1_off1_inb i t)))
            (View.ld vs (Rect.unit (k1_off1 i t) S512x128.size (k1_off1_inb i t))),
          k1_pay7 q0 q1 s.2 (View.ld ks (Rect.unit (k1_off1 i t) S512x128.size (k1_off1_inb i t)))) := by
  unfold tripR_k1_t1 trip_k1_t1
  dsimp only
  simp only [View.readAt_eq_ld, h2.read_unread, h3.read_unread]

/-- The loop's trip count is the row block's number. -/
theorem trips1 : ∀ i : grid1.Coords, (k1_t1_loop i).trips = (i 0).val := by decide +kernel

/-- The loop over the rest has no trip. -/
theorem trips2 : ∀ i : grid1.Coords, (k1_t2_loop i).trips = 0 := by decide +kernel

/-- The exponentials read a key's row alone. -/
theorem power_congr {k k' : ℕ → ℕ → EReal} {ρ j j' : ℕ} (h : ∀ x : Fin 128, k j x = k' j' x) :
    power q0 q1 k ρ j = power q0 q1 k' ρ j' := by
  simp only [power, h]

/-- The loop's state after `n` trips: sums over the first `512 n` keys. -/
theorem loop_state (n : ℕ) (hn : n ≤ (k1_t1_loop i).trips) (ρ : Fin 1024) :
    (∀ d : Fin 128, (st_k1_t1 (F := Ideal) Variants.none c none i m0 h0 m1 h1 m2 h2 m3 h3 m4 h4 m5 h5 q0 q1 (h2.unread ks) (h3.unread vs)
          (k1_pay4, k1_pay5) n).1 (ix2 ρ d) = ∑ j ∈ Finset.range (512 * n), power q0 q1 (rd2 ks) ρ j * rd2 vs j d)
      ∧ (st_k1_t1 (F := Ideal) Variants.none c none i m0 h0 m1 h1 m2 h2 m3 h3 m4 h4 m5 h5 q0 q1 (h2.unread ks) (h3.unread vs)
          (k1_pay4, k1_pay5) n).2 (ix2 ρ 0) = ∑ j ∈ Finset.range (512 * n), power q0 q1 (rd2 ks) ρ j := by
  induction n with
  | zero =>
    rw [st_k1_t1_zero]
    refine ⟨fun d => ?_, ?_⟩
    · pointwise [k1_pay4]
      simp
    · pointwise [k1_pay5]
      simp
  | succ n ih =>
    obtain ⟨ih1, ih2⟩ := ih (by omega)
    rw [st_k1_t1_succ (k := ⟨n, hn⟩), trip_eq]
    have hk : ∀ k : Fin 512, power q0 q1 (rd2 (View.ld ks (Rect.unit (k1_off1 i ⟨n, hn⟩) S512x128.size (k1_off1_inb i ⟨n, hn⟩)))) ρ k
        = power q0 q1 (rd2 ks) ρ (512 * n + k) := fun k =>
      power_congr q0 q1 fun x => (rd2_eq (m := 512) (n := 128) _ k x).symm.trans (key_block ks i ⟨n, hn⟩ k x)
    have hv : ∀ (k : Fin 512) (d : Fin 128), rd2 (View.ld vs (Rect.unit (k1_off1 i ⟨n, hn⟩) S512x128.size (k1_off1_inb i ⟨n, hn⟩))) k d
        = rd2 vs (512 * n + k) d := fun k d => (rd2_eq (m := 512) (n := 128) _ k d).symm.trans (key_block vs i ⟨n, hn⟩ k d)
    refine ⟨fun d => ?_, ?_⟩
    · refine (trip_acc q0 q1 _ _ _ ρ d).trans ?_
      rw [ih1 d, Nat.mul_succ, Finset.sum_range_add]
      simp only [hk, hv]
      rw [Finset.sum_range (n := 512)]
    · refine (trip_sum q0 q1 _ _ ρ).trans ?_
      rw [ih2, Nat.mul_succ, Finset.sum_range_add]
      simp only [hk]
      rw [Finset.sum_range (n := 512)]

end Loop

end Cert.KernelIdeal.Whole

end
-- ==== Proof.KernelIdealAttnValue.lean ====
module

public import proofs.«01_k».proof.Proof.KernelIdealAttnBlock

/-! What region 1 leaves in its array over the extended reals: causal attention of the side-by-side projections, the
heads two at a time, each pair times its rows of the output weights. First one grid point's block, then the
accumulation over the pairs of heads, then the array. -/

@[expose] public section

set_option maxRecDepth 16384

noncomputable section

namespace Cert.KernelIdeal.Whole

open Cert.KernelIdeal.Gen Cert.Spec
open Idealize.ShloMosaic Idealize.ShloMosaic.TcCoe

/-- The keys before the diagonal block and the masked diagonal block are the keys not past the row. -/
theorem keys_upto (f : ℕ → EReal) {i s : ℕ} (hi : i < 4) (hs : s < 512) :
    (∑ j ∈ Finset.range (512 * i), f j) + (∑ k : Fin 512, if k.val ≤ s then f (512 * i + k) else 0)
      = ∑ c : Fin 2048, if c.val ≤ 512 * i + s then f c else 0 := by
  rw [Finset.sum_fin_eq_sum_range, Finset.sum_fin_eq_sum_range]
  have h1 : ∑ j ∈ Finset.range 2048, (if h : j < 2048 then if (⟨j, h⟩ : Fin 2048).val ≤ 512 * i + s then f (⟨j, h⟩ : Fin 2048).val else 0 else 0)
      = ∑ j ∈ Finset.range (512 * i + 512), if j ≤ 512 * i + s then f j else 0 := by
    refine Eq.symm ((Finset.sum_subset (Finset.range_mono (by omega)) fun j _ hj => ?_).trans
      (Finset.sum_congr rfl fun j hj => ?_))
    · rw [if_neg (by rw [Finset.mem_range] at hj; omega)]
    · rw [dif_pos (Finset.mem_range.mp hj)]
  rw [h1, Finset.sum_range_add]
  refine congrArg₂ (· + ·) (Finset.sum_congr rfl fun j hj => ?_) (Finset.sum_congr rfl fun k hk => ?_)
  · rw [if_pos (by rw [Finset.mem_range] at hj; omega)]
  · rw [dif_pos (Finset.mem_range.mp hk)]
    simp only [Nat.add_le_add_iff_left]

section Body

variable (q0 q1 : Vec Ideal S512x128 .bf16) (ks vs : Vec Ideal S2048x128 .bf16) (wo : Vec Ideal S2048x2048 .bf16)
  (c : Dev nD) (i : grid1.Coords) (m0 m1 : Memref sig .tc .vmem S512x128 .bf16) (h0 : m0.IsWhole) (h1 : m1.IsWhole)
  (m2 m3 : Memref sig .tc .vmem S2048x128 .bf16) (h2 : m2.IsWhole) (h3 : m3.IsWhole)
  (m4 : Memref sig .tc .vmem S2048x2048 .bf16) (h4 : m4.IsWhole) (m5 : Memref sig .tc .vmem S512x2048 .f32) (h5 : m5.IsWhole)

/-- The diagonal block of the values. -/
theorem value_diagonal (k : Fin 512) (x : Fin 128) :
    k1_pay12 (View.ld vs (Rect.unit (k1_off3 i) S512x128.size (k1_off3_inb i))) (ix2 k x) = rd2 vs (512 * (i 0).val + k) x := by
  pointwise [k1_pay12]
  rw [rd2_eq vs]
  simp only [k1_off3_eq, Matrix.cons_val_zero, Matrix.cons_val_one, zero_add]

/-- The body's block at one grid point: each of the two heads' attention against its 128 rows of the output weights. -/
theorem body_value (a : ℕ → ℕ → EReal) (hi : (i 0).val < 4)
    (hq0 : ∀ ρ : Fin 512, ∀ x : Fin 128, rd2 q0 ρ x = a (512 * (i 0).val + ρ) (2 * (i 1).val * 128 + x))
    (hq1 : ∀ ρ : Fin 512, ∀ x : Fin 128, rd2 q1 ρ x = a (512 * (i 0).val + ρ) ((2 * (i 1).val + 1) * 128 + x))
    (hks : ∀ j : Fin 2048, ∀ x : Fin 128, rd2 ks j x = a j (2048 + (i 1).val * 128 + x))
    (hvs : ∀ j : Fin 2048, ∀ x : Fin 128, rd2 vs j x = a j (3072 + (i 1).val * 128 + x))
    (s : FVec Ideal S1024x128 .f32 × FVec Ideal S1024x1 .f32)
    (hs : s = st_k1_t1 (F := Ideal) Variants.none c none i m0 h0 m1 h1 m2 h2 m3 h3 m4 h4 m5 h5 q0 q1 (h2.unread ks) (h3.unread vs)
      (k1_pay4, k1_pay5) (k1_t1_loop i).trips) (r : Fin 512) (n : Fin 2048) :
    k1_pay1 s.1 s.2 (k1_pay12 (View.ld vs (Rect.unit (k1_off3 i) S512x128.size (k1_off3_inb i))))
        (k1_pay13 q0 q1 (View.ld ks (Rect.unit (k1_off3 i) S512x128.size (k1_off3_inb i))))
        (View.ld wo (Rect.unit (k1_off4 i) S256x2048.size (k1_off4_inb i))) (ix2 r n)
      = ∑ e : Fin 256, attnK a (2 * (i 1).val + e / 128) (512 * (i 0).val + r) (e % 128) * rd2 wo ((i 1).val * 256 + e) n := by
  rw [projected]
  refine Finset.sum_congr rfl fun e _ => ?_
  have he := e.isLt
  have hr := r.isLt
  have hρ : e.val / 128 * 512 + r.val < 1024 := by omega
  have hmod : (e.val / 128 * 512 + r.val) % 512 = r.val := by omega
  have hd : e.val % 128 < 128 := by omega
  obtain ⟨hacc, hsum⟩ := loop_state q0 q1 ks vs c i m0 m1 h0 h1 m2 m3 h2 h3 m4 h4 m5 h5 _ le_rfl ⟨_, hρ⟩
  rw [← hs, trips1] at hacc hsum
  have hA := (rd2_eq s.1 ⟨_, hρ⟩ ⟨_, hd⟩).symm.trans (hacc ⟨_, hd⟩)
  have hL := (rd2_eq s.2 ⟨_, hρ⟩ 0).symm.trans hsum
  have hkd : ∀ k : Fin 512, power q0 q1 (rd2 (View.ld ks (Rect.unit (k1_off3 i) S512x128.size (k1_off3_inb i)))) (e.val / 128 * 512 + r.val) k
      = power q0 q1 (rd2 ks) (e.val / 128 * 512 + r.val) (512 * (i 0).val + k) := fun k =>
    power_congr q0 q1 fun x => (rd2_eq (m := 512) (n := 128) _ k x).symm.trans (key_diagonal ks i k x)
  have hP : ∀ k : Fin 512, rd2 (k1_pay13 q0 q1 (View.ld ks (Rect.unit (k1_off3 i) S512x128.size (k1_off3_inb i)))) (e.val / 128 * 512 + r.val) k
      = if k.val ≤ r.val then power q0 q1 (rd2 ks) (e.val / 128 * 512 + r.val) (512 * (i 0).val + k) else 0 := fun k => by
    refine (rd2_eq (m := 1024) (n := 512) _ ⟨_, hρ⟩ k).symm.trans ((diagonal q0 q1 _ ⟨_, hρ⟩ k).trans ?_)
    simp only [hmod, hkd]
  have hv : ∀ k : Fin 512, rd2 (k1_pay12 (View.ld vs (Rect.unit (k1_off3 i) S512x128.size (k1_off3_inb i)))) k (e.val % 128)
      = rd2 vs (512 * (i 0).val + k) (e.val % 128) := fun k =>
    (rd2_eq (m := 512) (n := 128) _ k ⟨_, hd⟩).symm.trans (value_diagonal vs i k ⟨_, hd⟩)
  have hw : rd2 (View.ld wo (Rect.unit (k1_off4 i) S256x2048.size (k1_off4_inb i))) e n = rd2 wo ((i 1).val * 256 + e) n := by
    refine (rd2_eq (m := 256) (n := 2048) _ e n).symm.trans ((wo_rows wo i e n).trans ?_)
    rw [Nat.mul_comm]
  have hst : ∀ x : Fin 128, stacked q0 q1 (e.val / 128 * 512 + r.val) x
      = a (512 * (i 0).val + r) ((2 * (i 1).val + e / 128) * 128 + x) := fun x => by
    rw [stacked]
    by_cases h : e.val < 128
    · have e0 : e.val / 128 = 0 := by omega
      rw [e0, zero_mul, zero_add, if_pos hr, hq0 r x, add_zero]
    · have e1 : e.val / 128 = 1 := by omega
      rw [e1, one_mul, if_neg (by omega), Nat.add_sub_cancel_left, hq1 r x]
  have hpow : ∀ j : Fin 2048, power q0 q1 (rd2 ks) (e.val / 128 * 512 + r.val) j
      = Ideal.exp (score a (2 * (i 1).val + e / 128) (512 * (i 0).val + r) j - Ideal.ofBits .f32 0x41400000#32) := fun j => by
    have hh : (2 * (i 1).val + e.val / 128) / 2 = (i 1).val := by omega
    simp only [power, score, hst, hks j, hh]
  have hh : (2 * (i 1).val + e.val / 128) / 2 = (i 1).val := by omega
  have hvj : ∀ j : Fin 2048, rd2 vs j (e.val % 128) = a j (3072 + (i 1).val * 128 + e % 128) := fun j => hvs j ⟨_, hd⟩
  rw [hw]
  refine congrArg (· * _) ?_
  rw [attnK]
  refine congrArg₂ Ideal.div ?_ ?_
  · simp only [hP, hv, ite_mul, zero_mul]
    rw [show rd2 s.1 (e.val / 128 * 512 + r.val) (e.val % 128) = _ from hA,
      keys_upto (fun j => power q0 q1 (rd2 ks) (e.val / 128 * 512 + r.val) j * rd2 vs j (e.val % 128)) hi hr]
    simp only [hpow, hvj, weight, hh, ite_mul, zero_mul]
  · simp only [hP]
    rw [show rd2 s.2 (e.val / 128 * 512 + r.val) 0 = _ from hL,
      keys_upto (fun j => power q0 q1 (rd2 ks) (e.val / 128 * 512 + r.val) j) hi hr]
    simp only [hpow, weight]

end Body

variable (V : (c : Dev nD) → (b : Ref sig .tc) → Buf (Elt Ideal) ((c : Thread nD τ).loc b))

/-- The windows' block indices at each grid point. -/
theorem index1 : ∀ t : Fin grid1.N, win1_0.index t = ![t.val / 8, 2 * (t.val % 8)] ∧ win1_1.index t = ![t.val / 8, 2 * (t.val % 8) + 1]
    ∧ win1_2.index t = ![0, 16 + t.val % 8] ∧ win1_3.index t = ![0, 24 + t.val % 8] ∧ win1_4.index t = ![0, 0]
    ∧ win1_5.index t = ![t.val / 8, 0] := by decide +kernel

/-- The grid's two coordinates: the row block and the pair of heads. -/
theorem coords1 : ∀ t : Fin grid1.N, (grid1.coords t 0).val = t.val / 8 ∧ (grid1.coords t 1).val = t.val % 8 := by decide +kernel

/-- The first head's query block. -/
theorem block1_0 (c : Dev nD) (t : Fin cfg1.N) (ρ : Fin 512) (x : Fin 128) :
    rd2 (iblk1 V c 0 t : Vec Ideal S512x128 .bf16) ρ x
      = rd2 (V c main_v11 : Vec Ideal S2048x4096 .bf16) (512 * (t.val / 8) + ρ) (2 * (t.val % 8) * 128 + x) := by
  have ht : t.val < 32 := t.isLt
  rw [← rd2_eq (iblk1 V c 0 t : Vec Ideal S512x128 .bf16) ρ x]
  refine Eq.trans ?_ (rd2_eq (V c main_v11 : Vec Ideal S2048x4096 .bf16) ⟨512 * (t.val / 8) + ρ, by omega⟩ ⟨2 * (t.val % 8) * 128 + x, by omega⟩)
  blk_ext [iblk1, index1 t]

/-- The second head's query block. -/
theorem block1_1 (c : Dev nD) (t : Fin cfg1.N) (ρ : Fin 512) (x : Fin 128) :
    rd2 (iblk1 V c 1 t : Vec Ideal S512x128 .bf16) ρ x
      = rd2 (V c main_v11 : Vec Ideal S2048x4096 .bf16) (512 * (t.val / 8) + ρ) ((2 * (t.val % 8) + 1) * 128 + x) := by
  have ht : t.val < 32 := t.isLt
  rw [← rd2_eq (iblk1 V c 1 t : Vec Ideal S512x128 .bf16) ρ x]
  refine Eq.trans ?_ (rd2_eq (V c main_v11 : Vec Ideal S2048x4096 .bf16) ⟨512 * (t.val / 8) + ρ, by omega⟩ ⟨(2 * (t.val % 8) + 1) * 128 + x, by omega⟩)
  blk_ext [iblk1, index1 t]

/-- The key block. -/
theorem block1_2 (c : Dev nD) (t : Fin cfg1.N) (j : Fin 2048) (x : Fin 128) :
    rd2 (iblk1 V c 2 t : Vec Ideal S2048x128 .bf16) j x
      = rd2 (V c main_v11 : Vec Ideal S2048x4096 .bf16) j (2048 + t.val % 8 * 128 + x) := by
  have ht : t.val < 32 := t.isLt
  rw [← rd2_eq (iblk1 V c 2 t : Vec Ideal S2048x128 .bf16) j x]
  refine Eq.trans ?_ (rd2_eq (V c main_v11 : Vec Ideal S2048x4096 .bf16) j ⟨2048 + t.val % 8 * 128 + x, by omega⟩)
  blk_ext [iblk1, index1 t]

/-- The value block. -/
theorem block1_3 (c : Dev nD) (t : Fin cfg1.N) (j : Fin 2048) (x : Fin 128) :
    rd2 (iblk1 V c 3 t : Vec Ideal S2048x128 .bf16) j x
      = rd2 (V c main_v11 : Vec Ideal S2048x4096 .bf16) j (3072 + t.val % 8 * 128 + x) := by
  have ht : t.val < 32 := t.isLt
  rw [← rd2_eq (iblk1 V c 3 t : Vec Ideal S2048x128 .bf16) j x]
  refine Eq.trans ?_ (rd2_eq (V c main_v11 : Vec Ideal S2048x4096 .bf16) j ⟨3072 + t.val % 8 * 128 + x, by omega⟩)
  blk_ext [iblk1, index1 t]

/-- The output weights are whole at every point. -/
theorem block1_4 (c : Dev nD) (t : Fin cfg1.N) : (iblk1 V c 4 t : Vec Ideal S2048x2048 .bf16) = V c main_v12 := by
  funext y
  idx_vars y
  blk_ext [iblk1, index1 t]

/-- What grid point `t` adds to the output block: its pair of heads. -/
def pairTerm (c : Dev nD) (t : ℕ) (y : S512x2048.Idx) : EReal :=
  ∑ e : Fin 256, attnK (rd2 (V c main_v11 : Vec Ideal S2048x4096 .bf16)) (2 * (t % 8) + e / 128) (512 * (t / 8) + (y 0).val) (e % 128)
    * rd2 (V c main_v12 : Vec Ideal S2048x2048 .bf16) (t % 8 * 256 + e) (y 1).val

/-- The body's block at point `t` is that term. -/
theorem body_term (c : Dev nD) (t : Fin cfg1.N) (m0 m1 : Memref sig .tc .vmem S512x128 .bf16) (h0 : m0.IsWhole) (h1 : m1.IsWhole)
    (m2 m3 : Memref sig .tc .vmem S2048x128 .bf16) (h2 : m2.IsWhole) (h3 : m3.IsWhole)
    (m4 : Memref sig .tc .vmem S2048x2048 .bf16) (h4 : m4.IsWhole) (m5 : Memref sig .tc .vmem S512x2048 .f32) (h5 : m5.IsWhole)
    (s : FVec Ideal S1024x128 .f32 × FVec Ideal S1024x1 .f32)
    (hs : s = st_k1_t2 (F := Ideal) Variants.none c none (grid1.coords t) m0 h0 m1 h1 m2 h2 m3 h3 m4 h4 m5 h5 (iblk1 V c 0 t) (iblk1 V c 1 t)
      (h2.unread (iblk1 V c 2 t)) (h3.unread (iblk1 V c 3 t))
      (st_k1_t1 (F := Ideal) Variants.none c none (grid1.coords t) m0 h0 m1 h1 m2 h2 m3 h3 m4 h4 m5 h5 (iblk1 V c 0 t) (iblk1 V c 1 t)
        (h2.unread (iblk1 V c 2 t)) (h3.unread (iblk1 V c 3 t)) (k1_pay4, k1_pay5) (k1_t1_loop (grid1.coords t)).trips)
      (k1_t2_loop (grid1.coords t)).trips) (y : S512x2048.Idx) :
    k1_pay1 s.1 s.2
        (k1_pay12 (View.ld (iblk1 V c 3 t : Vec Ideal S2048x128 .bf16) (Rect.unit (k1_off3 (grid1.coords t)) S512x128.size (k1_off3_inb (grid1.coords t)))))
        (k1_pay13 (iblk1 V c 0 t) (iblk1 V c 1 t)
          (View.ld (iblk1 V c 2 t : Vec Ideal S2048x128 .bf16) (Rect.unit (k1_off3 (grid1.coords t)) S512x128.size (k1_off3_inb (grid1.coords t)))))
        (View.ld (iblk1 V c 4 t : Vec Ideal S2048x2048 .bf16) (Rect.unit (k1_off4 (grid1.coords t)) S256x2048.size (k1_off4_inb (grid1.coords t)))) y
      = pairTerm V c t.val y := by
  rw [trips2, st_k1_t2_zero] at hs
  obtain ⟨c0, c1⟩ := coords1 t
  have ht : t.val < 32 := t.isLt
  obtain ⟨r, n, rfl⟩ : ∃ (r : Fin 512) (n : Fin 2048), y = ix2 r n := ⟨y 0, y 1, by funext a; fin_cases a <;> rfl⟩
  refine (body_value (iblk1 V c 0 t) (iblk1 V c 1 t) (iblk1 V c 2 t) (iblk1 V c 3 t) (iblk1 V c 4 t) c (grid1.coords t)
    m0 m1 h0 h1 m2 m3 h2 h3 m4 h4 m5 h5 (rd2 (V c main_v11 : Vec Ideal S2048x4096 .bf16)) (by omega)
    ?_ ?_ ?_ ?_ s hs r n).trans ?_
  · rw [c0, c1]; exact block1_0 V c t
  · rw [c0, c1]; exact block1_1 V c t
  · rw [c1]; exact block1_2 V c t
  · rw [c1]; exact block1_3 V c t
  · rw [c0, c1, block1_4]; rfl

/-- At the first pair of heads the output block is the pair's term. -/
theorem staged1_first (c : Dev nD) (t : Fin cfg1.N) (h : t.val % 8 = 0) (y : S512x2048.Idx) :
    outsAt1 V c t.val t.isLt y = pairTerm V c t.val y := by
  rw [outsAt1_A V c t h (by omega)]
  frame_out
  exact body_term V c t (ms1_0 t) (ms1_1 t) (hs1_0 t) (hs1_1 t) (ms1_2 t) (ms1_3 t) (hs1_2 t) (hs1_3 t) (ms1_4 t) (hs1_4 t)
    (ms1_5 t) (hs1_5 t) _ rfl y

/-- At a later pair the output block is what it held and the pair's term. -/
theorem staged1_next (c : Dev nD) (t : Fin cfg1.N) (h : ¬t.val % 8 = 0) (y : S512x2048.Idx) :
    outsAt1 V c t.val t.isLt y
      = outsAt1 V c (t.val - 1) (Nat.lt_of_le_of_lt (Nat.sub_le _ _) t.isLt) y + pairTerm V c t.val y := by
  rw [outsAt1_B V c t h (by omega)]
  frame_out
  obtain ⟨r, n, rfl⟩ : ∃ (r : Fin 512) (n : Fin 2048), y = ix2 r n := ⟨y 0, y 1, by funext a; fin_cases a <;> rfl⟩
  refine (added _ _ _ _ _ _ r n).trans (congrArg (_ + ·) ?_)
  exact body_term V c t (ms1_0 t) (ms1_1 t) (hs1_0 t) (hs1_1 t) (ms1_2 t) (ms1_3 t) (hs1_2 t) (hs1_3 t) (ms1_4 t) (hs1_4 t)
    (ms1_5 t) (hs1_5 t) _ rfl (ix2 r n)

/-- At the last pair of a row block the output block is the sum over the eight pairs: the layer's result. -/
theorem staged1 (c : Dev nD) (t : Fin cfg1.N) (h : t.val % 8 = 7) (r : Fin 512) (n : Fin 2048) :
    outsAt1 V c t.val t.isLt (ix2 r n)
      = outK (rd2 (V c main_v11 : Vec Ideal S2048x4096 .bf16)) (rd2 (V c main_v12 : Vec Ideal S2048x2048 .bf16)) (512 * (t.val / 8) + r) n := by
  have key := Pipeline.eq_sum_of_reset_step_apply (N := cfg1.N) (f := fun n h => outsAt1 V c n h) 8 (fun _ => 0) (pairTerm V c)
    (fun t h y => (staged1_first V c t h y).trans (zero_add _).symm) (fun t h y => staged1_next V c t h y) t (ix2 r n)
  refine key.trans ?_
  rw [zero_add, h, outK, Finset.sum_range (n := 7 + 1)]
  refine Finset.sum_congr rfl fun g _ => ?_
  have hg := g.isLt
  have e1 : (8 * (t.val / 8) + g.val) % 8 = g.val := by omega
  have e2 : (8 * (t.val / 8) + g.val) / 8 = t.val / 8 := by omega
  rw [pairTerm, e1, e2]
  rfl

/-- Region 1's array after its pipeline. -/
theorem array1 (c : Dev nD) (r n : Fin 2048) :
    ((dat1 V c).arrAt 5 cfg1.N : Vec Ideal S2048x2048 .f32) (ix2 r n)
      = outK (rd2 (V c main_v11 : Vec Ideal S2048x4096 .bf16)) (rd2 (V c main_v12 : Vec Ideal S2048x2048 .bf16)) r n := by
  have key : (dat1 V c).arrAt 5 cfg1.N = fun i : S2048x2048.Idx =>
      outK (rd2 (V c main_v11 : Vec Ideal S2048x4096 .bf16)) (rd2 (V c main_v12 : Vec Ideal S2048x2048 .bf16)) (i 0).val (i 1).val := by
    refine (dat1 V c).arrAt_eq_of_covers 5 _ (by decide +kernel) fun t hf y => ?_
    blk_simp
    rw [after1_5]
    obtain ⟨r, n, rfl⟩ : ∃ (r : Fin 512) (n : Fin 2048), y = ix2 r n := ⟨y 0, y 1, by funext a; fin_cases a <;> rfl⟩
    have h7 : t.val % 8 = 7 := (by decide +kernel : ∀ t : Fin cfg1.N, (cfg1.win 5).flush t = true → t.val % 8 = 7) t hf
    refine (staged1 V c t h7 r n).trans ?_
    blk_simp [index1 t]
    rw [Nat.mul_comm 512]
  exact congrFun key (ix2 r n)

end Cert.KernelIdeal.Whole

end
-- ==== Proof.KernelIdealHost.lean ====
module

public import proofs.«01_k».proof.Proof.KernelIdealRun
public import proofs.«01_k».proof.Proof.KernelIdealQkvValue
public import proofs.«01_k».proof.Proof.KernelIdealAttnValue
public import Idealize.ShloMosaic.Lib.StableHlo.ReadAt

/-! What the kernel's host operations and its two regions leave over the extended reals, read off the arguments: region
0 the side-by-side projections, region 1 the layer's result, the result buffer that array under a leading one. -/

@[expose] public section

set_option maxRecDepth 16384

noncomputable section

namespace Cert.Spec

open Idealize.ShloMosaic

/-- The projections read the norm weights of the query and key heads alone. -/
theorem qkv_congr {x w nw nw' cs sn : ℕ → ℕ → EReal} (h : ∀ h < 24, ∀ d < 128, nw h d = nw' h d) (r c : ℕ) :
    qkv x w nw cs sn r c = qkv x w nw' cs sn r c := by
  rw [qkv, qkv]
  split_ifs with hc
  · refine rotated_congr (Nat.mod_lt _ (by omega)) fun d hd => ?_
    rw [normed, normed, h _ (by omega) d hd]
  · rfl

/-- The result reads the projections' 2048 rows and 4096 columns alone. -/
theorem outK_congr {a a' wo : ℕ → ℕ → EReal} (h : ∀ i j, i < 2048 → j < 4096 → a i j = a' i j) {r : ℕ} (hr : r < 2048) (n : ℕ) :
    outK a wo r n = outK a' wo r n := by
  have hs : ∀ h' < 16, ∀ c < 2048, score a h' r c = score a' h' r c := fun h' hh c hc => by
    rw [score, score]
    refine congrArg (· * scale) (Finset.sum_congr rfl fun d _ => ?_)
    have hd := d.isLt
    rw [h r _ hr (by omega), h c _ hc (by omega)]
  have hw : ∀ h' < 16, ∀ c : Fin 2048, weight a h' r c = weight a' h' r c := fun h' hh c => by
    rw [weight, weight, hs h' hh c c.isLt]
  refine Finset.sum_congr rfl fun g _ => Finset.sum_congr rfl fun e _ => ?_
  have hg := g.isLt
  have he := e.isLt
  have hh : 2 * g.val + e.val / 128 < 16 := by omega
  refine congrArg (· * _) ?_
  rw [attnK, attnK]
  refine congrArg₂ Ideal.div (Finset.sum_congr rfl fun c _ => ?_) (Finset.sum_congr rfl fun c _ => hw _ hh c)
  rw [hw _ hh c, h c _ c.isLt (by omega)]

end Cert.Spec

namespace Cert.KernelIdeal.Whole

open Cert.KernelIdeal.Gen Cert.Spec
open Idealize.ShloMosaic Idealize.ShloMosaic.TcCoe

variable (m : (ℓ : Loc nD τ sig) → Buf (Elt Ideal) ℓ) (ρ : Dev nD → PrngReg) (c : Dev nD)

/-- The hidden states. -/
abbrev arg0 : FVec Ideal S1x2048x2048 .f32 := m ((c : Thread nD τ).loc main_arg0)
/-- The cosines. -/
abbrev arg1 : FVec Ideal S1x2048x128 .f32 := m ((c : Thread nD τ).loc main_arg1)
/-- The sines. -/
abbrev arg2 : FVec Ideal S1x2048x128 .f32 := m ((c : Thread nD τ).loc main_arg2)
/-- The query weights. -/
abbrev arg3 : FVec Ideal S2048x2048 .f32 := m ((c : Thread nD τ).loc main_arg3)
/-- The key weights. -/
abbrev arg4 : FVec Ideal S2048x1024 .f32 := m ((c : Thread nD τ).loc main_arg4)
/-- The value weights. -/
abbrev arg5 : FVec Ideal S2048x1024 .f32 := m ((c : Thread nD τ).loc main_arg5)
/-- The output weights. -/
abbrev arg6 : FVec Ideal S2048x2048 .f32 := m ((c : Thread nD τ).loc main_arg6)
/-- The queries' norm weight. -/
abbrev arg7 : FVec Ideal S128 .f32 := m ((c : Thread nD τ).loc main_arg7)
/-- The keys' norm weight. -/
abbrev arg8 : FVec Ideal S128 .f32 := m ((c : Thread nD τ).loc main_arg8)

/-- Region 0's hidden states. -/
theorem host_v1 (i j : Fin 2048) : (V1 m ρ c main_v1 : Vec Ideal S2048x2048 .bf16) (ix2 i j) = arg0 m c (ix3 0 i j) := by
  change (StableHlo.after hostOps0 (W0 m ρ c) (Proc.devRef .tc main_v1) : Vec Ideal S2048x2048 .bf16) (ix2 i j) = _
  after_reads_at

/-- Region 0's cosines. -/
theorem host_v2 (i : Fin 2048) (j : Fin 128) : (V1 m ρ c main_v2 : Vec Ideal S2048x128 .f32) (ix2 i j) = arg1 m c (ix3 0 i j) := by
  change (StableHlo.after hostOps0 (W0 m ρ c) (Proc.devRef .tc main_v2) : Vec Ideal S2048x128 .f32) (ix2 i j) = _
  after_reads_at

/-- Region 0's sines. -/
theorem host_v3 (i : Fin 2048) (j : Fin 128) : (V1 m ρ c main_v3 : Vec Ideal S2048x128 .f32) (ix2 i j) = arg2 m c (ix3 0 i j) := by
  change (StableHlo.after hostOps0 (W0 m ρ c) (Proc.devRef .tc main_v3) : Vec Ideal S2048x128 .f32) (ix2 i j) = _
  after_reads_at

/-- Region 0's weights: the three matrices side by side. -/
theorem host_v10 (i : Fin 2048) (j : Fin 4096) :
    (V1 m ρ c main_v10 : Vec Ideal S2048x4096 .bf16) (ix2 i j) = sideBySide (rd2 (arg3 m c)) (rd2 (arg4 m c)) (rd2 (arg5 m c)) i j := by
  change (StableHlo.after hostOps0 (W0 m ρ c) (Proc.devRef .tc main_v10) : Vec Ideal S2048x4096 .bf16) (ix2 i j) = _
  after_reads_at
  after_reads_at
  rw [sideBySide]
  by_cases h1 : j.val < 2048
  · rw [dif_pos h1, if_pos h1]
    exact rd2_eq (arg3 m c) i ⟨j, h1⟩
  · rw [dif_neg h1, if_neg h1]
    by_cases h2 : j.val < 3072
    · rw [dif_pos (by omega), if_pos h2]
      exact rd2_eq (arg4 m c) i ⟨j - 2048, by omega⟩
    · have e : j.val - 2048 - 1024 = j.val - 3072 := by omega
      rw [dif_neg (by omega), if_neg h2, ← e]
      exact rd2_eq (arg5 m c) i ⟨j - 2048 - 1024, by omega⟩

/-- Region 0's norm weights, four heads a row. -/
theorem host_v8 (a : Fin 8) (b : Fin 512) :
    (V1 m ρ c main_v8 : Vec Ideal S8x1x512 .f32) (ix3 a 0 b)
      = headWeights (rd1 (arg7 m c)) (rd1 (arg8 m c)) (4 * a + b / 128) (b % 128) := by
  change (StableHlo.after hostOps0 (W0 m ρ c) (Proc.devRef .tc main_v8) : Vec Ideal S8x1x512 .f32) (ix3 a 0 b) = _
  after_reads_at
  after_reads_at
  rw [headWeights, Nat.mul_comm 4]
  by_cases h1 : a.val * 4 + b.val / 128 < 16
  · rw [dif_pos h1, if_pos h1]
    exact rd1_eq (arg7 m c) ⟨b % 128, Nat.mod_lt _ (by omega)⟩
  · rw [dif_neg h1, if_neg h1]
    by_cases h2 : a.val * 4 + b.val / 128 < 24
    · rw [dif_pos (show a.val * 4 + b.val / 128 - 16 < 8 by omega), if_pos h2]
      exact rd1_eq (arg8 m c) ⟨b % 128, Nat.mod_lt _ (by omega)⟩
    · rw [dif_neg (show ¬a.val * 4 + b.val / 128 - 16 < 8 by omega), if_neg h2]

/-- The side-by-side projections of the arguments. -/
def joinedArgs : ℕ → ℕ → EReal :=
  qkv (rd3 (arg0 m c)) (sideBySide (rd2 (arg3 m c)) (rd2 (arg4 m c)) (rd2 (arg5 m c)))
    (headWeights (rd1 (arg7 m c)) (rd1 (arg8 m c))) (rd3 (arg1 m c)) (rd3 (arg2 m c))

/-- Region 0 leaves the side-by-side projections of the arguments. -/
theorem projections_args : projections (V1 m ρ) c = joinedArgs m c := by
  have e1 : rd2 (V1 m ρ c main_v1 : Vec Ideal S2048x2048 .bf16) = rd3 (arg0 m c) := by
    funext i j
    rw [rd2, rd3]
    exact dite_congr rfl (fun _ => host_v1 m ρ c _ _) fun _ => rfl
  have e2 : rd2 (V1 m ρ c main_v2 : Vec Ideal S2048x128 .f32) = rd3 (arg1 m c) := by
    funext i j
    rw [rd2, rd3]
    exact dite_congr rfl (fun _ => host_v2 m ρ c _ _) fun _ => rfl
  have e3 : rd2 (V1 m ρ c main_v3 : Vec Ideal S2048x128 .f32) = rd3 (arg2 m c) := by
    funext i j
    rw [rd2, rd3]
    exact dite_congr rfl (fun _ => host_v3 m ρ c _ _) fun _ => rfl
  have e10 : rd2 (V1 m ρ c main_v10 : Vec Ideal S2048x4096 .bf16) = sideBySide (rd2 (arg3 m c)) (rd2 (arg4 m c)) (rd2 (arg5 m c)) := by
    funext i j
    by_cases h : i < 2048 ∧ j < 4096
    · exact (rd2_eq (V1 m ρ c main_v10 : Vec Ideal S2048x4096 .bf16) ⟨i, h.1⟩ ⟨j, h.2⟩).symm.trans (host_v10 m ρ c ⟨i, h.1⟩ ⟨j, h.2⟩)
    · rw [rd2, dif_neg h, sideBySide]
      split_ifs <;> rw [rd2, dif_neg (by omega)]
  funext r q
  rw [projections, joinedArgs, e1, e2, e3, e10]
  refine qkv_congr (fun h hh d hd => ?_) r q
  rw [weightRows, dif_pos (by omega), host_v8]
  simp only
  rw [show 4 * (h / 4) + (h % 4 * 128 + d) / 128 = h by omega, show (h % 4 * 128 + d) % 128 = d by omega]

/-- Region 1's projections. -/
theorem host_v11 (r j : ℕ) (hr : r < 2048) (hj : j < 4096) :
    rd2 (V3 m ρ c main_v11 : Vec Ideal S2048x4096 .bf16) r j = joinedArgs m c r j := by
  refine (rd2_eq (V3 m ρ c main_v11 : Vec Ideal S2048x4096 .bf16) ⟨r, hr⟩ ⟨j, hj⟩).symm.trans ?_
  rw [← projections_args m ρ c]
  refine Eq.trans ?_ (array0 (V1 m ρ) c ⟨r, hr⟩ ⟨j, hj⟩)
  exact congrFun ((W3_of m ρ c main_v11 (by decide)).trans (W2_arr m ρ c 5)) (ix2 ⟨r, hr⟩ ⟨j, hj⟩)

/-- Region 1's output weights. -/
theorem host_v12 : rd2 (V3 m ρ c main_v12 : Vec Ideal S2048x2048 .bf16) = rd2 (arg6 m c) := by
  have e : ∀ i j : Fin 2048, (V3 m ρ c main_v12 : Vec Ideal S2048x2048 .bf16) (ix2 i j) = arg6 m c (ix2 i j) := fun i j => by
    change (StableHlo.after hostOps1 (W2 m ρ c) (Proc.devRef .tc main_v12) : Vec Ideal S2048x2048 .bf16) (ix2 i j) = _
    after_reads_at
    exact congrFun (W2_args m ρ c main_arg6 (by decide)) (ix2 i j)
  funext i j
  rw [rd2, rd2]
  exact dite_congr rfl (fun _ => e _ _) fun _ => rfl

/-- The kernel's result, from the arguments. -/
theorem result_args (r n : Fin 2048) :
    (W5 m ρ c (Proc.devRef .tc main_v14) : Vec Ideal S1x2048x2048 .f32) (ix3 0 r n) = outK (joinedArgs m c) (rd2 (arg6 m c)) r n := by
  have e13 : (W4 m ρ c (Proc.devRef .tc main_v13) : Vec Ideal S2048x2048 .f32) (ix2 r n) = outK (joinedArgs m c) (rd2 (arg6 m c)) r n := by
    refine (congrFun (W4_arr m ρ c 5) (ix2 r n)).trans ((array1 (V3 m ρ) c r n).trans ?_)
    rw [host_v12]
    exact outK_congr (fun i j hi hj => host_v11 m ρ c i j hi hj) r.isLt n
  refine Eq.trans ?_ e13
  change (StableHlo.after hostOps2 (W4 m ρ c) (Proc.devRef .tc main_v14) : Vec Ideal S1x2048x2048 .f32) (ix3 0 r n) = _
  after_reads_at

end Cert.KernelIdeal.Whole

end
-- ==== Proof.RefProjections.lean ====
module

public import proofs.«01_k».proof.Proof.Spec
public import proofs.«01_k».proof.Proof.Gen.ReferenceIdeal.Read

/-! The plain formula's queries, keys and values, element by element: they are the columns of the side-by-side
projections `Cert.Spec.qkv`. -/

@[expose] public section

set_option maxRecDepth 16384

noncomputable section

namespace Cert.ReferenceIdeal.Read

open Idealize.ShloMosaic Cert.ReferenceIdeal Cert.Spec

variable (x0 : FVec Ideal S1x2048x2048 .f32) (x1 x2 : FVec Ideal S1x2048x128 .f32) (x3 : FVec Ideal S2048x2048 .f32)
  (x4 x5 : FVec Ideal S2048x1024 .f32) (x6 : FVec Ideal S2048x2048 .f32) (x7 x8 : FVec Ideal S128 .f32)

/-- The side-by-side projections of the arguments, normalised and rotated. -/
def joined : ℕ → ℕ → EReal :=
  qkv (rd3 x0) (sideBySide (rd2 x3) (rd2 x4) (rd2 x5)) (headWeights (rd1 x7) (rd1 x8)) (rd3 x1) (rd3 x2)

/-- The query projection, by heads. -/
theorem query_proj (r : Fin 2048) (h : Fin 16) (d : Fin 128) :
    val_main_v1 (F := Ideal) x0 x3 (ix4 0 r h d) = proj (rd3 x0) (rd2 x3) r (h * 128 + d) := by
  pointwise [val_main_v1, val_main_v0]
  simp only [rd3_eq x0, rd2_eq x3, proj]

/-- The key projection, by heads. -/
theorem key_proj (r : Fin 2048) (h : Fin 8) (d : Fin 128) :
    val_main_v17 (F := Ideal) x0 x4 (ix4 0 r h d) = proj (rd3 x0) (rd2 x4) r (h * 128 + d) := by
  pointwise [val_main_v17, val_main_v16]
  simp only [rd3_eq x0, rd2_eq x4, proj]

/-- The queries, normalised and weighted. -/
theorem query_normed (r : Fin 2048) (h : Fin 16) (d : Fin 128) :
    val_main_v14 (F := Ideal) x0 x3 x7 (ix4 0 r h d)
      = normed (fun d => proj (rd3 x0) (rd2 x3) r (h * 128 + d)) (rd1 x7) d := by
  pointwise [val_main_v14, val_main_v13, val_main_v12, val_main_v11, val_main_v10, val_main_v9, val_main_v8, val_main_v7,
    val_main_v6, val_main_v5, val_main_v4, val_main_v3, val_main_v2, val_main_cst, val_main_cst_0, val_main_cst_1]
  simp only [query_proj, rd1_eq x7, normed, invRms]

/-- The keys, normalised and weighted. -/
theorem key_normed (r : Fin 2048) (h : Fin 8) (d : Fin 128) :
    val_main_v30 (F := Ideal) x0 x4 x8 (ix4 0 r h d)
      = normed (fun d => proj (rd3 x0) (rd2 x4) r (h * 128 + d)) (rd1 x8) d := by
  pointwise [val_main_v30, val_main_v29, val_main_v28, val_main_v27, val_main_v26, val_main_v25, val_main_v24, val_main_v23,
    val_main_v22, val_main_v21, val_main_v20, val_main_v19, val_main_v18, val_main_cst_2, val_main_cst_3, val_main_cst_4]
  simp only [key_proj, rd1_eq x8, normed, invRms]

/-- The queries, rotated. -/
theorem query_rotated (r : Fin 2048) (h : Fin 16) (d : Fin 128) :
    val_main_v45 (F := Ideal) x0 x1 x2 x3 x7 (ix4 0 h r d)
      = rotated (normed (fun d => proj (rd3 x0) (rd2 x3) r (h * 128 + d)) (rd1 x7)) (rd3 x1 r) (rd3 x2 r) d := by
  pointwise [val_main_v45, val_main_v44, val_main_v43, val_main_v42, val_main_v41, val_main_v40, val_main_v39, val_main_v38,
    val_main_v37, val_main_v36, val_main_v35, val_main_v15]
  simp only [query_normed, rd3_eq x1, rd3_eq x2, rotated, dite_eq_ite]

/-- The keys, rotated, and repeated for the two query heads that share them. -/
theorem key_rotated (r : Fin 2048) (h : Fin 16) (d : Fin 128) :
    val_main_v56 (F := Ideal) x0 x1 x2 x4 x8 (ix4 0 h r d)
      = rotated (normed (fun d => proj (rd3 x0) (rd2 x4) r (h / 2 * 128 + d)) (rd1 x8)) (rd3 x1 r) (rd3 x2 r) d := by
  pointwise [val_main_v56, val_main_v55, val_main_v54, val_main_v53, val_main_v52, val_main_v51, val_main_v50, val_main_v49,
    val_main_v48, val_main_v47, val_main_v46, val_main_v36, val_main_v35, val_main_v31]
  simp only [key_normed, rd3_eq x1, rd3_eq x2, rotated, dite_eq_ite]

/-- The values, repeated for the two query heads that share them. -/
theorem value_proj (r : Fin 2048) (h : Fin 16) (d : Fin 128) :
    val_main_v58 (F := Ideal) x0 x5 (ix4 0 h r d) = proj (rd3 x0) (rd2 x5) r (h / 2 * 128 + d) := by
  pointwise [val_main_v58, val_main_v57, val_main_v34, val_main_v33, val_main_v32]
  simp only [rd3_eq x0, rd2_eq x5, proj]

/-- The queries are the first 16 heads of the side-by-side projections. -/
theorem query_joined (r : Fin 2048) (h : Fin 16) (d : Fin 128) :
    val_main_v45 (F := Ideal) x0 x1 x2 x3 x7 (ix4 0 h r d) = joined x0 x1 x2 x3 x4 x5 x7 x8 r (h * 128 + d) := by
  have hh := h.isLt
  have hd := d.isLt
  have e1 : (h.val * 128 + d.val) / 128 = h.val := by omega
  have e2 : (h.val * 128 + d.val) % 128 = d.val := by omega
  rw [query_rotated, joined, qkv, if_pos (by omega), e1, e2]
  have hw : headWeights (rd1 x7) (rd1 x8) h = rd1 x7 := by
    funext d'; simp [headWeights, hh]
  have hp : ∀ d' < 128, proj (rd3 x0) (sideBySide (rd2 x3) (rd2 x4) (rd2 x5)) r (h * 128 + d')
      = proj (rd3 x0) (rd2 x3) r (h * 128 + d') := by
    intro d' hd'
    refine Finset.sum_congr rfl fun k _ => ?_
    rw [sideBySide, if_pos (by omega)]
  rw [hw]
  exact (rotated_congr hd fun d' hd' => normed_congr hp hd').symm

/-- The keys are the 8 heads after them. -/
theorem key_joined (r : Fin 2048) (h : Fin 16) (d : Fin 128) :
    val_main_v56 (F := Ideal) x0 x1 x2 x4 x8 (ix4 0 h r d)
      = joined x0 x1 x2 x3 x4 x5 x7 x8 r (2048 + h / 2 * 128 + d) := by
  have hh := h.isLt
  have hd := d.isLt
  have e1 : (2048 + h.val / 2 * 128 + d.val) / 128 = 16 + h.val / 2 := by omega
  have e2 : (2048 + h.val / 2 * 128 + d.val) % 128 = d.val := by omega
  rw [key_rotated, joined, qkv, if_pos (by omega), e1, e2]
  have hw : headWeights (rd1 x7) (rd1 x8) (16 + h.val / 2) = rd1 x8 := by
    funext d'; rw [headWeights, if_neg (by omega), if_pos (by omega)]
  have hp : ∀ d' < 128, proj (rd3 x0) (sideBySide (rd2 x3) (rd2 x4) (rd2 x5)) r ((16 + h.val / 2) * 128 + d')
      = proj (rd3 x0) (rd2 x4) r (h.val / 2 * 128 + d') := by
    intro d' hd'
    refine Finset.sum_congr rfl fun k _ => ?_
    rw [sideBySide, if_neg (by omega), if_pos (by omega)]
    congr 2
    omega
  rw [hw]
  exact (rotated_congr hd fun d' hd' => normed_congr hp hd').symm

/-- The values are the last 8 heads. -/
theorem value_joined (r : Fin 2048) (h : Fin 16) (d : Fin 128) :
    val_main_v58 (F := Ideal) x0 x5 (ix4 0 h r d) = joined x0 x1 x2 x3 x4 x5 x7 x8 r (3072 + h / 2 * 128 + d) := by
  have hh := h.isLt
  have hd := d.isLt
  rw [value_proj, joined, qkv, if_neg (by omega)]
  refine Finset.sum_congr rfl fun k _ => ?_
  rw [sideBySide, if_neg (by omega), if_neg (by omega)]
  congr 2
  omega

end Cert.ReferenceIdeal.Read

end
-- ==== Proof.RefValue.lean ====
module

public import proofs.«01_k».proof.Proof.RefProjections

/-! The plain formula's scores, softmax and result, element by element: the result is `Cert.Spec.outR` of the side-by-side
projections and the output weights. -/

@[expose] public section

set_option maxRecDepth 16384

noncomputable section

namespace Cert.ReferenceIdeal.Read

open Idealize.ShloMosaic Cert.ReferenceIdeal Cert.ReferenceIdeal.Gen Cert.Spec

variable (x0 : FVec Ideal S1x2048x2048 .f32) (x1 x2 : FVec Ideal S1x2048x128 .f32) (x3 : FVec Ideal S2048x2048 .f32)
  (x4 x5 : FVec Ideal S2048x1024 .f32) (x6 : FVec Ideal S2048x2048 .f32) (x7 x8 : FVec Ideal S128 .f32)

/-- The pattern of 128 is the number 128. -/
theorem ofBits_128 : Ideal.ofBits .f32 0x43000000#32 = ((128 : ℝ) : EReal) := by
  simp [Ideal.ofBits, Ideal.ieee, -EReal.coe_mul]; norm_num

/-- The pattern of minus infinity is the least extended real. -/
theorem ofBits_neg_inf : Ideal.ofBits .f32 0xFF800000#32 = ⊥ := by
  simp [Ideal.ofBits, Ideal.ieee]

/-- Dividing by the root of 128 is multiplying by the scale. -/
theorem div_sqrt (x : EReal) : Ideal.div x (Ideal.sqrt (Ideal.ofBits .f32 0x43000000#32)) = x * scale := by
  rw [ofBits_128, Ideal.sqrt_coe, if_neg (by norm_num), Ideal.div_coe (Real.sqrt_pos.mpr (by norm_num)).ne', one_div, scale]

/-- The causal mask's bit: set exactly where the key row is not past the query row. -/
theorem causal_bit (r d : Fin 2048) :
    Scalar.select (IntOp.cmpi .sge (IntOp.addi (BitVec.ofNat 32 r.val) 0#32) (BitVec.ofNat 32 d.val)) 1#1 0#1
      = if d.val ≤ r.val then 1#1 else 0#1 := by
  have hr := r.isLt
  have hd := d.isLt
  have e : IntOp.cmpi .sge (IntOp.addi (BitVec.ofNat 32 r.val) 0#32) (BitVec.ofNat 32 d.val) = BitVec.ofBool (decide (d.val ≤ r.val)) := by
    simp only [IntOp.cmpi, IntOp.addi, BitVec.add_zero]
    congr 1
    rw [BitVec.sle_eq_decide]
    have toInt (k : Fin 2048) : (BitVec.ofNat 32 k.val).toInt = k.val := by
      have := k.isLt
      rw [BitVec.toInt_eq_toNat_of_lt (by rw [BitVec.toNat_ofNat]; omega), BitVec.toNat_ofNat]
      omega
    simp only [toInt, Nat.cast_le]
  rw [e]
  by_cases h : d.val ≤ r.val <;> simp [h, Scalar.select]

/-- The masked scores. -/
theorem masked_joined (h : Fin 16) (r c : Fin 2048) :
    val_main_v66 (F := Ideal) x0 x1 x2 x3 x4 x7 x8 (ix4 0 h r c) = masked (joined x0 x1 x2 x3 x4 x5 x7 x8) h r c := by
  pointwise [val_main_v66, val_main_v65, val_main_v64, val_main_v63, val_main_v62, val_main_v61, val_main_v60,
    val_main_cst_5, val_main_cst_6, val_main_c, val_main_call0_v0, val_main_call0_c, val_main_call0_v1, val_main_call0_v2,
    val_main_call0_v3, val_main_call0_v4, val_main_call0_c_0, val_main_call0_v5, val_main_call1_v0, val_main_call1_v1,
    val_main_call1_v2, val_main_v59]
  simp only [query_joined x0 x1 x2 x3 x4 x5 x7 x8, key_joined x0 x1 x2 x3 x4 x5 x7 x8, div_sqrt, ofBits_neg_inf]
  rw [causal_bit, masked, score]
  by_cases hc : c.val ≤ r.val
  · simp [hc, Scalar.select]
  · simp only [hc, Scalar.select, if_false]
    exact ofBits_neg_inf

/-- The host's maximum over the last axis, element by element. -/
theorem reduce_max (y : FVec Ideal S1x16x2048x2048 .f32) (h : Fin 16) (r : Fin 2048) :
    Host.reduce FloatOps.maximumf y (constant (F := Ideal) S_ .f32 0xFF800000#32) reducesTo_S1x16x2048x2048_S1x16x2048_d3 h_S_ (ix3 0 h r)
      = (Finset.univ : Finset (Fin 2048)).fold max ⊥ fun c => y (ix4 0 h r c) := by
  pointwise
  rw [ofBits_neg_inf]

/-- The largest masked score of a row. -/
theorem rowMax_joined (h : Fin 16) (r : Fin 2048) :
    val_main_v69 (F := Ideal) x0 x1 x2 x3 x4 x7 x8 (ix3 0 h r) = rowMax (joined x0 x1 x2 x3 x4 x5 x7 x8) h r := by
  have e : val_main_v67 (F := Ideal) x0 x1 x2 x3 x4 x7 x8 (ix3 0 h r)
      = (Finset.univ : Finset (Fin 2048)).fold max ⊥ fun c : Fin 2048 => masked (joined x0 x1 x2 x3 x4 x5 x7 x8) h r c.val := by
    unfold val_main_v67 val_main_cst_7
    rw [reduce_max]
    simp only [masked_joined x0 x1 x2 x3 x4 x5 x7 x8]
  rw [val_main_v69_apply, e, val_main_v68_apply, rowMax, ← ofBits_neg_inf]
  exact rfl

/-- The exponentials. -/
theorem expo_joined (h : Fin 16) (r c : Fin 2048) :
    val_main_v73 (F := Ideal) x0 x1 x2 x3 x4 x7 x8 (ix4 0 h r c) = expo (joined x0 x1 x2 x3 x4 x5 x7 x8) h r c := by
  pointwise [val_main_v73, val_main_v72, val_main_v71, val_main_v70]
  rw [masked_joined x0 x1 x2 x3 x4 x5 x7 x8, rowMax_joined x0 x1 x2 x3 x4 x5 x7 x8, expo]

/-- The softmax times the values. -/
theorem attn_joined (h : Fin 16) (r : Fin 2048) (d : Fin 128) :
    val_main_v78 (F := Ideal) x0 x1 x2 x3 x4 x5 x7 x8 (ix4 0 h r d) = attnR (joined x0 x1 x2 x3 x4 x5 x7 x8) h r d := by
  pointwise [val_main_v78, val_main_v77, val_main_v76, val_main_v75, val_main_v74, val_main_cst_9]
  simp only [expo_joined x0 x1 x2 x3 x4 x5 x7 x8, value_joined x0 x1 x2 x3 x4 x5 x7 x8, attnR]

/-- The result. -/
theorem out_joined (r n : Fin 2048) :
    val_main_v81 (F := Ideal) x0 x1 x2 x3 x4 x5 x6 x7 x8 (ix3 0 r n)
      = outR (joined x0 x1 x2 x3 x4 x5 x7 x8) (rd2 x6) r n := by
  pointwise [val_main_v81, val_main_v80, val_main_v79]
  simp only [attn_joined, rd2_eq x6, outR]

end Cert.ReferenceIdeal.Read

end
-- ==== Proof.Finite.lean ====
module

public import proofs.«01_k».proof.Proof.Spec

/-! Which of the numbers are finite: a normalised head times finite weights is finite whatever the head holds, so with
finite weights, cosines and sines every query, every key and every score is a real number. -/

@[expose] public section

noncomputable section

namespace Cert.Spec

open Idealize.ShloMosaic

/-- An extended real that is a real number. -/
def Fin' (x : EReal) : Prop := ∃ r : ℝ, x = (r : EReal)

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.add {x y : EReal} (hx : Fin' x) (hy : Fin' y) : Fin' (x + y) := by
  obtain ⟨a, rfl⟩ := hx
  obtain ⟨b, rfl⟩ := hy
  exact ⟨a + b, (EReal.coe_add a b).symm⟩

theorem Fin'.neg {x : EReal} (hx : Fin' x) : Fin' (-x) := by
  obtain ⟨a, rfl⟩ := hx
  exact ⟨-a, (EReal.coe_neg a).symm⟩

theorem Fin'.sum {ι : Type*} (s : Finset ι) {f : ι → EReal} (h : ∀ i ∈ s, Fin' (f i)) : Fin' (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A sum of real numbers, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Neither infinity: a real number. -/
theorem fin_of_ne {x : EReal} (h1 : x ≠ ⊤) (h2 : x ≠ ⊥) : Fin' x := ⟨x.toReal, (EReal.coe_toReal h1 h2).symm⟩

/-- The pattern of 128 is the number 128. -/
theorem bits_128 : Ideal.ofBits .f32 0x43000000#32 = ((128 : ℝ) : EReal) := by
  simp [Ideal.ofBits, Ideal.ieee, -EReal.coe_mul]; norm_num

/-- The epsilon is a positive real number. -/
theorem bits_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- A square is not negative. -/
theorem mul_self_nonneg' (x : EReal) : 0 ≤ x * x := by
  induction x with
  | bot => simp
  | top => simp
  | coe a => rw [← EReal.coe_mul]; exact_mod_cast mul_self_nonneg a

/-- A head's element times the reciprocal root of the mean square is finite, whatever the head holds: with an infinite
element the mean square is infinite and the reciprocal root zero. -/
theorem fin_mul_invRms (y : ℕ → EReal) (d : ℕ) (hd : d < 128) : Fin' (y d * invRms y) := by
  obtain ⟨e, he, hE⟩ := bits_eps
  by_cases h : ∀ k : Fin 128, Fin' (y k)
  · have h' : ∀ k : Fin 128, ∃ r : ℝ, y k = (r : EReal) := h
    choose f hf using h'
    have hs : (∑ k : Fin 128, y k * y k) = ((∑ k : Fin 128, f k * f k : ℝ) : EReal) := by
      rw [coe_sum]
      exact Finset.sum_congr rfl fun k _ => by rw [hf k, EReal.coe_mul]
    have hpos : 0 ≤ ∑ k : Fin 128, f k * f k := Finset.sum_nonneg fun k _ => mul_self_nonneg _
    have hi : Fin' (invRms y) := by
      rw [invRms, hs, bits_128, hE, Ideal.div_coe (by norm_num), ← EReal.coe_mul, ← EReal.coe_add]
      have hp : 0 < (∑ k : Fin 128, f k * f k) * (1 / 128) + e := by positivity
      rw [Ideal.rsqrt_coe, if_neg (not_lt.mpr hp.le), if_neg hp.ne']
      exact ⟨_, rfl⟩
    exact Fin'.mul (h ⟨d, hd⟩) hi
  · obtain ⟨k, hk⟩ := not_forall.mp h
    have hkk : y k * y k = ⊤ := by
      rcases eq_or_ne (y k) ⊤ with h1 | h1
      · rw [h1]; rfl
      · rcases eq_or_ne (y k) ⊥ with h2 | h2
        · rw [h2]; rfl
        · exact absurd (fin_of_ne h1 h2) hk
    have hs : (∑ k : Fin 128, y k * y k) = ⊤ := by
      refine top_le_iff.mp ?_
      rw [← hkk]
      exact Finset.single_le_sum (f := fun k : Fin 128 => y k * y k) (fun i _ => mul_self_nonneg' _) (Finset.mem_univ k)
    have hi : invRms y = 0 := by
      rw [invRms, hs, bits_128, hE, Ideal.div_coe (by norm_num), EReal.top_mul_coe_of_pos (by norm_num), EReal.top_add_coe]
      rfl
    rw [hi, mul_zero]
    exact ⟨0, by simp⟩

/-- A normalised head under finite weights is finite. -/
theorem fin_normed {y w : ℕ → EReal} {d : ℕ} (hd : d < 128) (hw : Fin' (w d)) : Fin' (normed y w d) :=
  (fin_mul_invRms y d hd).mul hw

/-- So is the rotated head, under finite cosines and sines. -/
theorem fin_rotated {z c s : ℕ → EReal} {d : ℕ} (hd : d < 128) (hz : ∀ d < 128, Fin' (z d)) (hc : Fin' (c d)) (hs : Fin' (s d)) :
    Fin' (rotated z c s d) := by
  refine ((hz d hd).mul hc).add (Fin'.mul ?_ hs)
  split_ifs with h
  · exact (hz (64 + d) (by omega)).neg
  · exact hz (d - 64) (by omega)

/-- Every query and every key is finite. -/
theorem fin_qkv {x w nw cs sn : ℕ → ℕ → EReal} {r c : ℕ} (hc : c < 3072)
    (hw : ∀ h < 24, ∀ d < 128, Fin' (nw h d)) (hcs : ∀ d < 128, Fin' (cs r d)) (hsn : ∀ d < 128, Fin' (sn r d)) :
    Fin' (qkv x w nw cs sn r c) := by
  rw [qkv, if_pos hc]
  exact fin_rotated (by omega) (fun d hd => fin_normed hd (hw _ (by omega) d hd)) (hcs _ (by omega)) (hsn _ (by omega))

/-- Then every score is finite. -/
theorem fin_score {a : ℕ → ℕ → EReal} {h r c : ℕ} (hh : h < 16) (hr : ∀ j < 3072, Fin' (a r j)) (hc : ∀ j < 3072, Fin' (a c j)) :
    Fin' (score a h r c) := by
  refine Fin'.mul (Fin'.sum _ fun d _ => Fin'.mul (hr _ ?_) (hc _ ?_)) ⟨_, rfl⟩
  · have := d.isLt; omega
  · have := d.isLt; omega

end Cert.Spec

end
-- ==== Proof.Softmax.lean ====
module

public import proofs.«01_k».proof.Proof.Finite

/-! The kernel's softmax is the plain one. The kernel subtracts a constant from every score, sums exponentials and
exponentials times values, and divides once; the plain formula subtracts the row's largest score and divides every
exponential. Where the scores of a row are finite the two agree, whatever the values are; and the kernel's sum over the
output projection's rows, taken two heads at a time, is the plain sum. -/

@[expose] public section

noncomputable section

namespace Cert.Spec

open Idealize.ShloMosaic

/-- The constant the kernel subtracts is the number 12. -/
theorem bits_12 : Ideal.ofBits .f32 0x41400000#32 = ((12 : ℝ) : EReal) := by
  simp [Ideal.ofBits, Ideal.ieee, -EReal.coe_mul]; norm_num

/-- A nonnegative real factor goes into a sum of extended reals. -/
theorem sum_mul_coe {ι : Type*} (s : Finset ι) (f : ι → EReal) {y : ℝ} (hy : 0 ≤ y) :
    (∑ i ∈ s, f i) * (y : EReal) = ∑ i ∈ s, f i * (y : EReal) := by
  classical
  induction s using Finset.induction_on with
  | empty => simp
  | insert a s ha ih =>
    rw [Finset.sum_insert ha, Finset.sum_insert ha,
      EReal.right_distrib_of_nonneg_of_ne_top (by exact_mod_cast hy) (EReal.coe_ne_top y), ih]

section Row

variable {a : ℕ → ℕ → EReal} {h r : ℕ} (hr : r < 2048) {s : ℕ → ℝ} (hs : ∀ c ≤ r, score a h r c = (s c : EReal))

include hs in
/-- A kernel's weight, as a real number. -/
theorem weight_coe (c : ℕ) : weight a h r c = ((if c ≤ r then Real.exp (s c - 12) else 0 : ℝ) : EReal) := by
  rw [weight]
  split_ifs with hc
  · rw [hs c hc, bits_12, ← EReal.coe_sub, Ideal.exp_coe]
  · rfl

include hr hs in
/-- The largest masked score of a row is finite. -/
theorem rowMax_coe : ∃ m : ℝ, rowMax a h r = (m : EReal) := by
  refine fin_of_ne ?_ ?_
  · refine (max_lt bot_lt_top (Finset.fold_max_lt _ |>.mpr ⟨bot_lt_top, fun c _ => ?_⟩)).ne
    rw [masked]
    split_ifs with hc
    · rw [hs _ hc]; exact EReal.coe_lt_top _
    · exact bot_lt_top
  · refine (lt_of_lt_of_le ?_ (le_max_right _ _)).ne'
    refine (Finset.lt_fold_max _).mpr (Or.inr ⟨⟨r, hr⟩, Finset.mem_univ _, ?_⟩)
    rw [masked, if_pos le_rfl, hs r le_rfl]
    exact EReal.bot_lt_coe _

include hs in
/-- A plain exponential, as a real number: the kernel's weight times one factor common to the row. -/
theorem expo_coe {m : ℝ} (hm : rowMax a h r = (m : EReal)) (c : ℕ) :
    expo a h r c = (((if c ≤ r then Real.exp (s c - 12) else 0) * Real.exp (12 - m) : ℝ) : EReal) := by
  rw [expo, hm, masked]
  split_ifs with hc
  · rw [hs c hc, ← EReal.coe_sub, Ideal.exp_coe, ← Real.exp_add]
    congr 2
    ring
  · rw [EReal.bot_sub, zero_mul]
    rfl

include hr hs in
/-- The two softmaxes agree. -/
theorem attn_eq (d : ℕ) : attnK a h r d = attnR a h r d := by
  obtain ⟨m, hm⟩ := rowMax_coe hr hs
  set w : ℕ → ℝ := fun c => if c ≤ r then Real.exp (s c - 12) else 0 with hw
  have hpos : 0 < ∑ c : Fin 2048, w c := by
    refine Finset.sum_pos' (fun c _ => ?_) ⟨⟨r, hr⟩, Finset.mem_univ _, ?_⟩
    · simp only [hw]; split_ifs
      · exact (Real.exp_pos _).le
      · exact le_rfl
    · simp only [hw, le_refl, if_true]; exact Real.exp_pos _
  have hE : (0 : ℝ) < Real.exp (12 - m) := Real.exp_pos _
  have e1 : ∀ c, weight a h r c = (w c : EReal) := weight_coe hs
  have e2 : ∀ c, expo a h r c = ((w c * Real.exp (12 - m) : ℝ) : EReal) := expo_coe hs hm
  rw [attnK, attnR]
  simp only [e1, e2, ← coe_sum]
  rw [Ideal.div_coe hpos.ne', sum_mul_coe _ _ (by positivity)]
  refine Finset.sum_congr rfl fun c _ => ?_
  rw [← Finset.sum_mul, Ideal.div_coe (by positivity), ← EReal.coe_mul, mul_right_comm, ← EReal.coe_mul]
  congr 2
  field_simp

end Row

/-- The kernel's result is the plain formula's, where the scores are finite. -/
theorem out_eq {a wo : ℕ → ℕ → EReal} {r : ℕ} (hr : r < 2048) (hs : ∀ h < 16, ∀ c ≤ r, Fin' (score a h r c)) (n : ℕ) :
    outK a wo r n = outR a wo r n := by
  have key : ∀ h < 16, ∀ d, attnK a h r d = attnR a h r d := by
    intro h hh d
    have h' : ∀ c : ℕ, ∃ x : ℝ, c ≤ r → score a h r c = (x : EReal) := by
      intro c
      by_cases hc : c ≤ r
      · obtain ⟨x, hx⟩ := hs h hh c hc
        exact ⟨x, fun _ => hx⟩
      · exact ⟨0, fun hc' => absurd hc' hc⟩
    choose s hs' using h'
    exact attn_eq hr hs' d
  rw [outK, outR]
  have e : ∑ k : Fin 2048, attnR a (k / 128) r (k % 128) * wo k n
      = ∑ g : Fin 8, ∑ e : Fin 256, attnR a ((g * 256 + e) / 128) r ((g * 256 + e) % 128) * wo (g * 256 + e) n := by
    have := Fintype.sum_equiv (finProdFinEquiv (m := 8) (n := 256))
      (fun p : Fin 8 × Fin 256 => attnR a ((p.1 * 256 + p.2) / 128) r ((p.1 * 256 + p.2) % 128) * wo (p.1 * 256 + p.2) n)
      (fun k : Fin 2048 => attnR a (k / 128) r (k % 128) * wo k n) (fun p => by
        have : ((finProdFinEquiv (m := 8) (n := 256) p : Fin (8 * 256)) : ℕ) = p.1 * 256 + p.2 := by
          rw [finProdFinEquiv_apply_val]; ring
        simp only [this])
    rw [← this, Fintype.sum_prod_type]
  rw [e]
  refine Finset.sum_congr rfl fun g _ => Finset.sum_congr rfl fun e _ => ?_
  have hg := g.isLt
  have he := e.isLt
  rw [key _ (by omega)]
  congr 2 <;> omega

end Cert.Spec

end
-- ==== Proof.Agree.lean ====
module

public import proofs.«01_k».proof.Defs
public import proofs.«01_k».proof.Proof.KernelIdealHost
public import proofs.«01_k».proof.Proof.RefValue
public import proofs.«01_k».proof.Proof.Softmax
public import proofs.«01_k».proof.Proof.Finite
public import proofs.«01_k».proof.Proof.Gen.ReferenceIdeal.Run

/-! The value claim: over the extended reals the kernel's result is the plain formula's, at every index, wherever the
rotation's cosines and sines and the two norm weights are finite. -/

@[expose] public section

set_option maxRecDepth 16384

noncomputable section

namespace Cert.Proof

open Idealize.ShloMosaic Idealize.ShloMosaic.TcCoe Idealize.SL.Sem
open Cert.Spec Cert.KernelIdeal.Whole

/-- The precondition's shape relations. -/
theorem pre_facts : Cert.Pre_finite_rotation.Facts := ⟨by decide, by decide⟩

attribute [local instance] pre_facts

/-- An element whose magnitude compares below infinity is a real number. -/
theorem fin_of_abs_lt {x : EReal}
    (h : BitVec.ofBool (decide (FloatOps.absf (F := Ideal) (φ := .f32) x < Ideal.ofBits .f32 0x7F800000#32)) = 1#1) : Fin' x := by
  have hinf : Ideal.ofBits .f32 0x7F800000#32 = ⊤ := by simp [Ideal.ofBits, Ideal.ieee]
  have hlt : FloatOps.absf (F := Ideal) (φ := .f32) x < (⊤ : EReal) := by
    rw [hinf] at h
    by_contra hn
    rw [decide_eq_false hn] at h
    exact absurd h (by decide)
  have habs : FloatOps.absf (F := Ideal) (φ := .f32) x = max x (-x) := rfl
  rw [habs] at hlt
  refine fin_of_ne (fun h => ?_) fun h => ?_ <;> subst h <;> simp at hlt

section Finite

variable {m : (ℓ : Loc Cert.KernelIdeal.nD Cert.KernelIdeal.τ Cert.KernelIdeal.sig) → Buf (Elt Ideal) ℓ}
  (h : Cert.Pre_KernelIdeal_finite_rotation m) (c : Dev Cert.KernelIdeal.nD)

include h

/-- Under the precondition the cosines are real numbers. -/
theorem fin_cos (i : Fin 2048) (j : Fin 128) : Fin' (arg1 m c (ix3 0 i j)) := by
  have e := congrFun (h c).1 (ix3 0 i j)
  revert e
  pointwise [Cert.Pre_finite_rotation.fn]
  exact fin_of_abs_lt

/-- So are the sines. -/
theorem fin_sin (i : Fin 2048) (j : Fin 128) : Fin' (arg2 m c (ix3 0 i j)) := by
  have e := congrFun (h c).2.1 (ix3 0 i j)
  revert e
  pointwise [Cert.Pre_finite_rotation.fn]
  exact fin_of_abs_lt

/-- So are the queries' norm weights. -/
theorem fin_query_weight (j : Fin 128) : Fin' (arg7 m c (ix1 j)) := by
  have e := congrFun (h c).2.2.1 (ix1 j)
  revert e
  pointwise [Cert.Pre_finite_rotation.fn]
  exact fin_of_abs_lt

/-- So are the keys' norm weights. -/
theorem fin_key_weight (j : Fin 128) : Fin' (arg8 m c (ix1 j)) := by
  have e := congrFun (h c).2.2.2 (ix1 j)
  revert e
  pointwise [Cert.Pre_finite_rotation.fn]
  exact fin_of_abs_lt

/-- So are the normalised and rotated queries and keys. -/
theorem fin_joined {r : ℕ} (hr : r < 2048) {j : ℕ} (hj : j < 3072) : Fin' (joinedArgs m c r j) := by
  refine fin_qkv hj (fun h' hh d hd => ?_) (fun d hd => ?_) fun d hd => ?_
  · rw [headWeights]
    split_ifs
    · exact rd1_eq (arg7 m c) ⟨d, hd⟩ ▸ fin_query_weight h c ⟨d, hd⟩
    · exact rd1_eq (arg8 m c) ⟨d, hd⟩ ▸ fin_key_weight h c ⟨d, hd⟩
  · exact rd3_eq (l := 0) (arg1 m c) ⟨r, hr⟩ ⟨d, hd⟩ ▸ fin_cos h c ⟨r, hr⟩ ⟨d, hd⟩
  · exact rd3_eq (l := 0) (arg2 m c) ⟨r, hr⟩ ⟨d, hd⟩ ▸ fin_sin h c ⟨r, hr⟩ ⟨d, hd⟩

/-- The kernel's result is the plain formula's of its arguments. -/
theorem results_eq (g : Dev Cert.KernelIdeal.nD → PrngReg) :
    (W5 m g c (Proc.devRef .tc Cert.KernelIdeal.main_v14) : FVec Ideal Cert.KernelIdeal.S1x2048x2048 .f32)
      = Cert.ReferenceIdeal.Read.val_main_v81 (F := Ideal) (arg0 m c) (arg1 m c) (arg2 m c) (arg3 m c) (arg4 m c) (arg5 m c)
          (arg6 m c) (arg7 m c) (arg8 m c) := by
  funext y
  obtain ⟨r, n, rfl⟩ : ∃ r n : Fin 2048, y = ix3 0 r n :=
    ⟨y 1, y 2, by funext a; fin_cases a; exacts [Fin.eq_zero _, rfl, rfl]⟩
  refine (result_args m g c r n).trans (Eq.trans ?_ (Cert.ReferenceIdeal.Read.out_joined _ _ _ _ _ _ _ _ _ r n).symm)
  exact out_eq r.isLt (fun h' hh k hk => fin_score hh (fun j hj => fin_joined h c r.isLt hj)
    fun j hj => fin_joined h c (Nat.lt_of_le_of_lt hk r.isLt) hj) n

end Finite

/-- THE VALUE CLAIM: the idealized kernel's result is the idealized reference's. -/
theorem agree : Cert.algebraic_KernelIdeal_ReferenceIdeal_pre_finite_rotation := by
  intro m g m' g' hpre hargs
  refine ⟨fun c => W5 m g c (Proc.devRef .tc Cert.KernelIdeal.main_v14), ?_, ?_⟩
  · exact (θ_run Cert.KernelIdeal.defs _ _).mono
      (fun _ h c => let ⟨h0, h1, h2, h3, h4, h5, h6, h7, h8, hv⟩ := h.1 c; ⟨hv, h0, h1, h2, h3, h4, h5, h6, h7, h8⟩)
      (runs_to (F := Ideal) m g)
  · refine (θ_run Cert.ReferenceIdeal.defs _ _).mono (fun _ h c => ⟨(h c).1.trans ?_, (h c).2⟩)
      (Cert.ReferenceIdeal.Value.run (F := Ideal) m' g')
    obtain ⟨e0, e1, e2, e3, e4, e5, e6, e7, e8⟩ := hargs c
    rw [Cert.ReferenceIdeal.Read.val_main_v81_eq]
    refine Eq.trans ?_ (results_eq hpre c g).symm
    rw [e0, e1, e2, e3, e4, e5, e6, e7, e8]

end Cert.Proof

end
-- ==== Proof.lean ====
/- The certificate: the frames of the three programs, with and without the precondition, the named constant, and the
value claim. -/
module

public import proofs.«01_k».proof.Defs
public import proofs.«01_k».proof.Proof.Gen.ReferenceIdeal.Read
public import proofs.«01_k».proof.Proof.Frames
public import proofs.«01_k».proof.Proof.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, pre_facts,
    kernel_frame, kernelIdeal_frame, fun m g _ => kernelIdeal_frame m g trivial, referenceIdeal_frame,
    fun m g _ => referenceIdeal_frame m g trivial, scale_preserved, agree⟩

end Cert.Proof

end
